-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fields_below_eight [hPre_fields_below_eight : Cert.Pre_fields_below_eight.Facts] (m : (ℓ : Loc Cert.KernelIdeal.nD Cert.KernelIdeal.τ Cert.KernelIdeal.sig) → Buf (Elt Ideal) ℓ) : Prop :=
  ∀ c : Dev Cert.KernelIdeal.nD,
    (Cert.Pre_fields_below_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fields_below_eight [hPre_fields_below_eight : Cert.Pre_fields_below_eight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fields_below_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_fields_below_eight [hKernelIdeal : Cert.KernelIdeal.Facts] [hPre_fields_below_eight : Cert.Pre_fields_below_eight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fields_below_eight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_fields_below_eight [hReferenceIdeal : Cert.ReferenceIdeal.Facts] [hPre_fields_below_eight : Cert.Pre_fields_below_eight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fields_below_eight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_fields_below_eight [hKernelIdeal : Cert.KernelIdeal.Facts] [hReferenceIdeal : Cert.ReferenceIdeal.Facts] [hPre_fields_below_eight : Cert.Pre_fields_below_eight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fields_below_eight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_fields_below_eight : Cert.Pre_fields_below_eight.Facts),
    quiescent_Kernel (hKernel := hKernel)
    ∧ quiescent_KernelIdeal (hKernelIdeal := hKernelIdeal)
    ∧ quiescent_KernelIdeal_pre_fields_below_eight (hKernelIdeal := hKernelIdeal) (hPre_fields_below_eight := hPre_fields_below_eight)
    ∧ quiescent_ReferenceIdeal (hReferenceIdeal := hReferenceIdeal)
    ∧ quiescent_ReferenceIdeal_pre_fields_below_eight (hReferenceIdeal := hReferenceIdeal) (hPre_fields_below_eight := hPre_fields_below_eight)
    ∧ preserves_Kernel_KernelIdeal
    ∧ algebraic_KernelIdeal_ReferenceIdeal_pre_fields_below_eight (hKernelIdeal := hKernelIdeal) (hReferenceIdeal := hReferenceIdeal) (hPre_fields_below_eight := hPre_fields_below_eight)
-- ==== Pre_fields_below_eight.lean ====
abbrev S1024x200x19 : Shape := ⟨3, ![1024, 200, 19]⟩
abbrev S1024x200x128 : Shape := ⟨3, ![1024, 200, 128]⟩
abbrev S128x128 : Shape := ⟨2, ![128, 128]⟩
abbrev S128 : Shape := ⟨1, ![128]⟩
abbrev S919x128 : Shape := ⟨2, ![919, 128]⟩
abbrev S576x128 : Shape := ⟨2, ![576, 128]⟩
abbrev S312x128 : Shape := ⟨2, ![312, 128]⟩
abbrev S8x128 : Shape := ⟨2, ![8, 128]⟩
abbrev S16x128 : Shape := ⟨2, ![16, 128]⟩
abbrev S32x128 : Shape := ⟨2, ![32, 128]⟩
abbrev S20x128 : Shape := ⟨2, ![20, 128]⟩
abbrev S7x128 : Shape := ⟨2, ![7, 128]⟩
abbrev S2x128 : Shape := ⟨2, ![2, 128]⟩
abbrev S_ : Shape := ⟨0, ![]⟩

class Facts : Prop where
  bcast_S_S1024x200x19 : S_.BroadcastsInDim S1024x200x19 (![] : Fin 0 → Fin S1024x200x19.rank)
  reducesTo_S1024x200x19_S_d0_1_2 : S1024x200x19.ReducesTo [0, 1, 2] S_
  h_S_ : 0 < S_.numel

variable [Facts]

def fn {F : FTy → Type} [FloatOps F] (main_arg0 : IVec S1024x200x19 32) (main_arg1 : FVec F S1024x200x128 .f32) (main_arg2 : FVec F S1024x200x128 .f32) (main_arg3 : FVec F S128x128 .f32) (main_arg4 : FVec F S128 .f32) (main_arg5 : FVec F S128x128 .f32) (main_arg6 : FVec F S128 .f32) (main_arg7 : FVec F S919x128 .f32) (main_arg8 : FVec F S576x128 .f32) (main_arg9 : FVec F S312x128 .f32) (main_arg10 : FVec F S8x128 .f32) (main_arg11 : FVec F S16x128 .f32) (main_arg12 : FVec F S32x128 .f32) (main_arg13 : FVec F S128x128 .f32) (main_arg14 : FVec F S20x128 .f32) (main_arg15 : FVec F S7x128 .f32) (main_arg16 : FVec F S128 .f32) (main_arg17 : FVec F S20x128 .f32) (main_arg18 : FVec F S128 .f32) (main_arg19 : FVec F S2x128 .f32) (main_arg20 : FVec F S128 .f32) : IVec S_ 1 :=
  let main_c : IVec S_ 32 := constantI S_ 32 0#32
  let main_v0 : IVec S1024x200x19 32 := broadcastInDim S1024x200x19 ![] bcast_S_S1024x200x19 main_c
  let main_v1 : IVec S1024x200x19 1 := cmpi .sge main_arg0 main_v0
  let main_c_0 : IVec S_ 32 := constantI S_ 32 8#32
  let main_v2 : IVec S1024x200x19 32 := broadcastInDim S1024x200x19 ![] bcast_S_S1024x200x19 main_c_0
  let main_v3 : IVec S1024x200x19 1 := cmpi .slt main_arg0 main_v2
  let main_v4 : IVec S1024x200x19 1 := andi main_v1 main_v3
  let main_c_1 : IVec S_ 1 := constantI S_ 1 1#1
  let main_v5 : IVec S_ 1 := (fun x v => Host.reduce IntOp.andi x v reducesTo_S1024x200x19_S_d0_1_2 h_S_) main_v4 main_c_1
  main_v5
-- ==== Kernel.lean ====
abbrev S1024x200x19 : Shape := ⟨3, ![1024, 200, 19]⟩
abbrev S1024x200x128 : Shape := ⟨3, ![1024, 200, 128]⟩
abbrev S128x128 : Shape := ⟨2, ![128, 128]⟩
abbrev S128 : Shape := ⟨1, ![128]⟩
abbrev S919x128 : Shape := ⟨2, ![919, 128]⟩
abbrev S576x128 : Shape := ⟨2, ![576, 128]⟩
abbrev S312x128 : Shape := ⟨2, ![312, 128]⟩
abbrev S8x128 : Shape := ⟨2, ![8, 128]⟩
abbrev S16x128 : Shape := ⟨2, ![16, 128]⟩
abbrev S32x128 : Shape := ⟨2, ![32, 128]⟩
abbrev S20x128 : Shape := ⟨2, ![20, 128]⟩
abbrev S7x128 : Shape := ⟨2, ![7, 128]⟩
abbrev S2x128 : Shape := ⟨2, ![2, 128]⟩
abbrev S8x20 : Shape := ⟨2, ![8, 20]⟩
abbrev S1x20 : Shape := ⟨2, ![1, 20]⟩
abbrev S8x2 : Shape := ⟨2, ![8, 2]⟩
abbrev S17x128 : Shape := ⟨2, ![17, 128]⟩
abbrev S4x128 : Shape := ⟨2, ![4, 128]⟩
abbrev S1x128 : Shape := ⟨2, ![1, 128]⟩
abbrev S40x128 : Shape := ⟨2, ![40, 128]⟩
abbrev S1024x200x17 : Shape := ⟨3, ![1024, 200, 17]⟩
abbrev S64x200x17 : Shape := ⟨3, ![64, 200, 17]⟩
abbrev S64x200x128 : Shape := ⟨3, ![64, 200, 128]⟩
abbrev S12800x17 : Shape := ⟨2, ![12800, 17]⟩
abbrev S12800x128 : Shape := ⟨2, ![12800, 128]⟩

abbrev nBuf : Space → Nat
  | .hbm => 44
  | .vmem => 28
  | .smem => 0
  | _ => 0

abbrev bufTy : (tb : Table) → Fin (tcTables nBuf tb) → BufTy
  | .hbm, ⟨0, _⟩ => ⟨S1024x200x19, .i32⟩
  | .hbm, ⟨1, _⟩ => ⟨S1024x200x128, .f32⟩
  | .hbm, ⟨2, _⟩ => ⟨S1024x200x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S919x128, .f32⟩
  | .hbm, ⟨8, _⟩ => ⟨S576x128, .f32⟩
  | .hbm, ⟨9, _⟩ => ⟨S312x128, .f32⟩
  | .hbm, ⟨10, _⟩ => ⟨S8x128, .f32⟩
  | .hbm, ⟨11, _⟩ => ⟨S16x128, .f32⟩
  | .hbm, ⟨12, _⟩ => ⟨S32x128, .f32⟩
  | .hbm, ⟨13, _⟩ => ⟨S128x128, .f32⟩
  | .hbm, ⟨14, _⟩ => ⟨S20x128, .f32⟩
  | .hbm, ⟨15, _⟩ => ⟨S7x128, .f32⟩
  | .hbm, ⟨16, _⟩ => ⟨S128, .f32⟩
  | .hbm, ⟨17, _⟩ => ⟨S20x128, .f32⟩
  | .hbm, ⟨18, _⟩ => ⟨S128, .f32⟩
  | .hbm, ⟨19, _⟩ => ⟨S2x128, .f32⟩
  | .hbm, ⟨20, _⟩ => ⟨S128, .f32⟩
  | .hbm, ⟨21, _⟩ => ⟨S8x20, .f32⟩
  | .hbm, ⟨22, _⟩ => ⟨S1x20, .f32⟩
  | .hbm, ⟨23, _⟩ => ⟨S8x2, .f32⟩
  | .hbm, ⟨24, _⟩ => ⟨S17x128, .f32⟩
  | .hbm, ⟨25, _⟩ => ⟨S4x128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S1x128, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S8x20, .f32⟩
  | .hbm, ⟨39, _⟩ => ⟨S8x20, .f32⟩
  | .hbm, ⟨40, _⟩ => ⟨S128x128, .f32⟩
  | .hbm, ⟨41, _⟩ => ⟨S1024x200x17, .i32⟩
  | .hbm, ⟨42, _⟩ => ⟨S1024x200x17, .i8⟩
  | .hbm, ⟨43, _⟩ => ⟨S1024x200x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S7x128, .f32⟩
  | .local _ .vmem, ⟨9, _⟩ => ⟨S20x128, .f32⟩
  | .local _ .vmem, ⟨10, _⟩ => ⟨S2x128, .f32⟩
  | .local _ .vmem, ⟨11, _⟩ => ⟨S1x128, .f32⟩
  | .local _ .vmem, ⟨12, _⟩ => ⟨S8x20, .f32⟩
  | .local _ .vmem, ⟨13, _⟩ => ⟨S8x2, .f32⟩
  | .local _ .vmem, ⟨14, _⟩ => ⟨S128x128, .f32⟩
  | .local _ .vmem, ⟨15, _⟩ => ⟨S64x200x17, .i8⟩
  | .local _ .vmem, ⟨16, _⟩ => ⟨S64x200x17, .i8⟩
  | .local _ .vmem, ⟨17, _⟩ => ⟨S64x200x128, .f32⟩
  | .local _ .vmem, ⟨18, _⟩ => ⟨S64x200x128, .f32⟩
  | .local _ .vmem, ⟨19, _⟩ => ⟨S64x200x128, .f32⟩
  | .local _ .vmem, ⟨20, _⟩ => ⟨S64x200x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S17x128, .f32⟩
  | .local _ .vmem, ⟨25, _⟩ => ⟨S4x128, .f32⟩
  | .local _ .vmem, ⟨26, _⟩ => ⟨S64x200x128, .f32⟩
  | .local _ .vmem, ⟨27, _⟩ => ⟨S64x200x128, .f32⟩
  | _, _ => ⟨S1024x200x19, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_cst_0 : Ref sig .tc := ⟨.hbm, 22, rfl⟩
abbrev main_cst_1 : Ref sig .tc := ⟨.hbm, 23, rfl⟩
abbrev main_cst_2 : Ref sig .tc := ⟨.hbm, 24, rfl⟩
abbrev main_cst_3 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x200x17 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S17x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S1024x200x19 : Shape := ⟨3, ![1024, 200, 19]⟩
abbrev S1024x200x128 : Shape := ⟨3, ![1024, 200, 128]⟩
abbrev S128x128 : Shape := ⟨2, ![128, 128]⟩
abbrev S128 : Shape := ⟨1, ![128]⟩
abbrev S919x128 : Shape := ⟨2, ![919, 128]⟩
abbrev S576x128 : Shape := ⟨2, ![576, 128]⟩
abbrev S312x128 : Shape := ⟨2, ![312, 128]⟩
abbrev S8x128 : Shape := ⟨2, ![8, 128]⟩
abbrev S16x128 : Shape := ⟨2, ![16, 128]⟩
abbrev S32x128 : Shape := ⟨2, ![32, 128]⟩
abbrev S20x128 : Shape := ⟨2, ![20, 128]⟩
abbrev S7x128 : Shape := ⟨2, ![7, 128]⟩
abbrev S2x128 : Shape := ⟨2, ![2, 128]⟩
abbrev S1024x200x1 : Shape := ⟨3, ![1024, 200, 1]⟩
abbrev S1024x200 : Shape := ⟨2, ![1024, 200]⟩
abbrev S_ : Shape := ⟨0, ![]⟩
abbrev S1x1x128 : Shape := ⟨3, ![1, 1, 128]⟩
abbrev S1 : Shape := ⟨1, ![1]⟩
abbrev S1x1x1 : Shape := ⟨3, ![1, 1, 1]⟩
abbrev S1024x200x7 : Shape := ⟨3, ![1024, 200, 7]⟩
abbrev S1x1x17 : Shape := ⟨3, ![1, 1, 17]⟩
abbrev S1024x200x17 : Shape := ⟨3, ![1024, 200, 17]⟩
abbrev S1024x200x20 : Shape := ⟨3, ![1024, 200, 20]⟩
abbrev S2 : Shape := ⟨1, ![2]⟩
abbrev S1x1x2 : Shape := ⟨3, ![1, 1, 2]⟩
abbrev S1024x200x2 : Shape := ⟨3, ![1024, 200, 2]⟩

abbrev nBuf : Space → Nat
  | .hbm => 332
  | .vmem => 0
  | .smem => 0
  | _ => 0

abbrev hbmTy0_0 (i : Nat) : BufTy := match i % 128 with
  | 0 => ⟨S1024x200x19, .i32⟩
  | 1 => ⟨S1024x200x128, .f32⟩
  | 2 => ⟨S1024x200x128, .f32⟩
  | 3 => ⟨S128x128, .f32⟩
  | 4 => ⟨S128, .f32⟩
  | 5 => ⟨S128x128, .f32⟩
  | 6 => ⟨S128, .f32⟩
  | 7 => ⟨S919x128, .f32⟩
  | 8 => ⟨S576x128, .f32⟩
  | 9 => ⟨S312x128, .f32⟩
  | 10 => ⟨S8x128, .f32⟩
  | 11 => ⟨S16x128, .f32⟩
  | 12 => ⟨S32x128, .f32⟩
  | 13 => ⟨S128x128, .f32⟩
  | 14 => ⟨S20x128, .f32⟩
  | 15 => ⟨S7x128, .f32⟩
  | 16 => ⟨S128, .f32⟩
  | 17 => ⟨S20x128, .f32⟩
  | 18 => ⟨S128, .f32⟩
  | 19 => ⟨S2x128, .f32⟩
  | 20 => ⟨S128, .f32⟩
  | 21 => ⟨S1024x200x1, .i32⟩
  | 22 => ⟨S1024x200, .i32⟩
  | 23 => ⟨S_, .i32⟩
  | 24 => ⟨S1024x200, .i32⟩
  | 25 => ⟨S1024x200, .i1⟩
  | 26 => ⟨S1024x200x1, .i1⟩
  | 27 => ⟨S1024x200x1, .i32⟩
  | 28 => ⟨S1024x200, .i32⟩
  | 29 => ⟨S_, .i32⟩
  | 30 => ⟨S1024x200, .i32⟩
  | 31 => ⟨S1024x200, .i1⟩
  | 32 => ⟨S1024x200x1, .i1⟩
  | 33 => ⟨S_, .f32⟩
  | 34 => ⟨S_, .f32⟩
  | 35 => ⟨S1024x200x128, .i1⟩
  | 36 => ⟨S1024x200x128, .f32⟩
  | 37 => ⟨S1024x200x128, .f32⟩
  | 38 => ⟨S1024x200x128, .f32⟩
  | 39 => ⟨S1x1x128, .f32⟩
  | 40 => ⟨S1024x200x128, .f32⟩
  | 41 => ⟨S1024x200x128, .f32⟩
  | 42 => ⟨S_, .f32⟩
  | 43 => ⟨S_, .f32⟩
  | 44 => ⟨S1024x200x128, .i1⟩
  | 45 => ⟨S1024x200x128, .f32⟩
  | 46 => ⟨S1024x200x128, .f32⟩
  | 47 => ⟨S1024x200x128, .f32⟩
  | 48 => ⟨S1x1x128, .f32⟩
  | 49 => ⟨S1024x200x128, .f32⟩
  | 50 => ⟨S1024x200x128, .f32⟩
  | 51 => ⟨S1024x200x1, .i32⟩
  | 52 => ⟨S1024x200, .i32⟩
  | 53 => ⟨S_, .i32⟩
  | 54 => ⟨S1024x200, .i32⟩
  | 55 => ⟨S1024x200, .i1⟩
  | 56 => ⟨S_, .i32⟩
  | 57 => ⟨S1024x200, .i32⟩
  | 58 => ⟨S1024x200, .i32⟩
  | 59 => ⟨S1024x200, .i32⟩
  | 60 => ⟨S1024x200x1, .i32⟩
  | 61 => ⟨S1, .i32⟩
  | 62 => ⟨S_, .i32⟩
  | 63 => ⟨S1024x200x1, .i32⟩
  | 64 => ⟨S1024x200x1, .i1⟩
  | 65 => ⟨S1x1x1, .i32⟩
  | 66 => ⟨S1024x200x1, .i32⟩
  | 67 => ⟨S1024x200x1, .i1⟩
  | 68 => ⟨S1024x200x1, .i1⟩
  | 69 => ⟨S_, .i1⟩
  | 70 => ⟨S1024x200, .i1⟩
  | 71 => ⟨S1024x200x128, .f32⟩
  | 72 => ⟨S1024x200x128, .i1⟩
  | 73 => ⟨S_, .f32⟩
  | 74 => ⟨S1024x200x128, .f32⟩
  | 75 => ⟨S1024x200x128, .f32⟩
  | 76 => ⟨S1024x200x1, .i32⟩
  | 77 => ⟨S1024x200, .i32⟩
  | 78 => ⟨S_, .i32⟩
  | 79 => ⟨S1024x200, .i32⟩
  | 80 => ⟨S1024x200, .i1⟩
  | 81 => ⟨S_, .i32⟩
  | 82 => ⟨S1024x200, .i32⟩
  | 83 => ⟨S1024x200, .i32⟩
  | 84 => ⟨S1024x200, .i32⟩
  | 85 => ⟨S1024x200x1, .i32⟩
  | 86 => ⟨S1, .i32⟩
  | 87 => ⟨S_, .i32⟩
  | 88 => ⟨S1024x200x1, .i32⟩
  | 89 => ⟨S1024x200x1, .i1⟩
  | 90 => ⟨S1x1x1, .i32⟩
  | 91 => ⟨S1024x200x1, .i32⟩
  | 92 => ⟨S1024x200x1, .i1⟩
  | 93 => ⟨S1024x200x1, .i1⟩
  | 94 => ⟨S_, .i1⟩
  | 95 => ⟨S1024x200, .i1⟩
  | 96 => ⟨S1024x200x128, .f32⟩
  | 97 => ⟨S1024x200x128, .i1⟩
  | 98 => ⟨S_, .f32⟩
  | 99 => ⟨S1024x200x128, .f32⟩
  | 100 => ⟨S1024x200x128, .f32⟩
  | 101 => ⟨S1024x200x1, .i32⟩
  | 102 => ⟨S1024x200, .i32⟩
  | 103 => ⟨S_, .i32⟩
  | 104 => ⟨S1024x200, .i32⟩
  | 105 => ⟨S1024x200, .i1⟩
  | 106 => ⟨S_, .i32⟩
  | 107 => ⟨S1024x200, .i32⟩
  | 108 => ⟨S1024x200, .i32⟩
  | 109 => ⟨S1024x200, .i32⟩
  | 110 => ⟨S1024x200x1, .i32⟩
  | 111 => ⟨S1, .i32⟩
  | 112 => ⟨S_, .i32⟩
  | 113 => ⟨S1024x200x1, .i32⟩
  | 114 => ⟨S1024x200x1, .i1⟩
  | 115 => ⟨S1x1x1, .i32⟩
  | 116 => ⟨S1024x200x1, .i32⟩
  | 117 => ⟨S1024x200x1, .i1⟩
  | 118 => ⟨S1024x200x1, .i1⟩
  | 119 => ⟨S_, .i1⟩
  | 120 => ⟨S1024x200, .i1⟩
  | 121 => ⟨S1024x200x128, .f32⟩
  | 122 => ⟨S1024x200x128, .i1⟩
  | 123 => ⟨S_, .f32⟩
  | 124 => ⟨S1024x200x128, .f32⟩
  | 125 => ⟨S1024x200x128, .f32⟩
  | 126 => ⟨S1024x200x1, .i32⟩
  | 127 => ⟨S1024x200, .i32⟩
  | _ => ⟨S1024x200x19, .i32⟩

abbrev hbmTy0_1 (i : Nat) : BufTy := match i % 128 with
  | 0 => ⟨S_, .i32⟩
  | 1 => ⟨S1024x200, .i32⟩
  | 2 => ⟨S1024x200, .i1⟩
  | 3 => ⟨S_, .i32⟩
  | 4 => ⟨S1024x200, .i32⟩
  | 5 => ⟨S1024x200, .i32⟩
  | 6 => ⟨S1024x200, .i32⟩
  | 7 => ⟨S1024x200x1, .i32⟩
  | 8 => ⟨S1, .i32⟩
  | 9 => ⟨S_, .i32⟩
  | 10 => ⟨S1024x200x1, .i32⟩
  | 11 => ⟨S1024x200x1, .i1⟩
  | 12 => ⟨S1x1x1, .i32⟩
  | 13 => ⟨S1024x200x1, .i32⟩
  | 14 => ⟨S1024x200x1, .i1⟩
  | 15 => ⟨S1024x200x1, .i1⟩
  | 16 => ⟨S_, .i1⟩
  | 17 => ⟨S1024x200, .i1⟩
  | 18 => ⟨S1024x200x128, .f32⟩
  | 19 => ⟨S1024x200x128, .i1⟩
  | 20 => ⟨S_, .f32⟩
  | 21 => ⟨S1024x200x128, .f32⟩
  | 22 => ⟨S1024x200x128, .f32⟩
  | 23 => ⟨S1024x200x1, .i32⟩
  | 24 => ⟨S1024x200, .i32⟩
  | 25 => ⟨S_, .i32⟩
  | 26 => ⟨S1024x200, .i32⟩
  | 27 => ⟨S1024x200, .i1⟩
  | 28 => ⟨S_, .i32⟩
  | 29 => ⟨S1024x200, .i32⟩
  | 30 => ⟨S1024x200, .i32⟩
  | 31 => ⟨S1024x200, .i32⟩
  | 32 => ⟨S1024x200x1, .i32⟩
  | 33 => ⟨S1, .i32⟩
  | 34 => ⟨S_, .i32⟩
  | 35 => ⟨S1024x200x1, .i32⟩
  | 36 => ⟨S1024x200x1, .i1⟩
  | 37 => ⟨S1x1x1, .i32⟩
  | 38 => ⟨S1024x200x1, .i32⟩
  | 39 => ⟨S1024x200x1, .i1⟩
  | 40 => ⟨S1024x200x1, .i1⟩
  | 41 => ⟨S_, .i1⟩
  | 42 => ⟨S1024x200, .i1⟩
  | 43 => ⟨S1024x200x128, .f32⟩
  | 44 => ⟨S1024x200x128, .i1⟩
  | 45 => ⟨S_, .f32⟩
  | 46 => ⟨S1024x200x128, .f32⟩
  | 47 => ⟨S1024x200x128, .f32⟩
  | 48 => ⟨S1024x200x1, .i32⟩
  | 49 => ⟨S1024x200, .i32⟩
  | 50 => ⟨S_, .i32⟩
  | 51 => ⟨S1024x200, .i32⟩
  | 52 => ⟨S1024x200, .i1⟩
  | 53 => ⟨S_, .i32⟩
  | 54 => ⟨S1024x200, .i32⟩
  | 55 => ⟨S1024x200, .i32⟩
  | 56 => ⟨S1024x200, .i32⟩
  | 57 => ⟨S1024x200x1, .i32⟩
  | 58 => ⟨S1, .i32⟩
  | 59 => ⟨S_, .i32⟩
  | 60 => ⟨S1024x200x1, .i32⟩
  | 61 => ⟨S1024x200x1, .i1⟩
  | 62 => ⟨S1x1x1, .i32⟩
  | 63 => ⟨S1024x200x1, .i32⟩
  | 64 => ⟨S1024x200x1, .i1⟩
  | 65 => ⟨S1024x200x1, .i1⟩
  | 66 => ⟨S_, .i1⟩
  | 67 => ⟨S1024x200, .i1⟩
  | 68 => ⟨S1024x200x128, .f32⟩
  | 69 => ⟨S1024x200x128, .i1⟩
  | 70 => ⟨S_, .f32⟩
  | 71 => ⟨S1024x200x128, .f32⟩
  | 72 => ⟨S1024x200x128, .f32⟩
  | 73 => ⟨S1024x200x1, .i32⟩
  | 74 => ⟨S1024x200, .i32⟩
  | 75 => ⟨S_, .i32⟩
  | 76 => ⟨S1024x200, .i32⟩
  | 77 => ⟨S1024x200, .i1⟩
  | 78 => ⟨S_, .i32⟩
  | 79 => ⟨S1024x200, .i32⟩
  | 80 => ⟨S1024x200, .i32⟩
  | 81 => ⟨S1024x200, .i32⟩
  | 82 => ⟨S1024x200x1, .i32⟩
  | 83 => ⟨S1, .i32⟩
  | 84 => ⟨S_, .i32⟩
  | 85 => ⟨S1024x200x1, .i32⟩
  | 86 => ⟨S1024x200x1, .i1⟩
  | 87 => ⟨S1x1x1, .i32⟩
  | 88 => ⟨S1024x200x1, .i32⟩
  | 89 => ⟨S1024x200x1, .i1⟩
  | 90 => ⟨S1024x200x1, .i1⟩
  | 91 => ⟨S_, .i1⟩
  | 92 => ⟨S1024x200, .i1⟩
  | 93 => ⟨S1024x200x128, .f32⟩
  | 94 => ⟨S1024x200x128, .i1⟩
  | 95 => ⟨S_, .f32⟩
  | 96 => ⟨S1024x200x128, .f32⟩
  | 97 => ⟨S1024x200x128, .f32⟩
  | 98 => ⟨S1024x200x7, .i32⟩
  | 99 => ⟨S1024x200x7, .f32⟩
  | 100 => ⟨S1024x200x128, .f32⟩
  | 101 => ⟨S1x1x128, .f32⟩
  | 102 => ⟨S1024x200x128, .f32⟩
  | 103 => ⟨S1024x200x128, .f32⟩
  | 104 => ⟨S1024x200x1, .i32⟩
  | 105 => ⟨S1024x200, .i32⟩
  | 106 => ⟨S1024x200, .f32⟩
  | 107 => ⟨S_, .f32⟩
  | 108 => ⟨S1024x200, .f32⟩
  | 109 => ⟨S1024x200, .f32⟩
  | 110 => ⟨S1024x200x1, .f32⟩
  | 111 => ⟨S1024x200, .f32⟩
  | 112 => ⟨S1024x200x1, .f32⟩
  | 113 => ⟨S1024x200, .i32⟩
  | 114 => ⟨S1024x200, .f32⟩
  | 115 => ⟨S1024x200x1, .f32⟩
  | 116 => ⟨S_, .i32⟩
  | 117 => ⟨S1024x200, .i32⟩
  | 118 => ⟨S1024x200, .i32⟩
  | 119 => ⟨S1024x200, .f32⟩
  | 120 => ⟨S_, .f32⟩
  | 121 => ⟨S1024x200, .f32⟩
  | 122 => ⟨S1024x200, .f32⟩
  | 123 => ⟨S1024x200, .f32⟩
  | 124 => ⟨S_, .i32⟩
  | 125 => ⟨S1024x200, .i32⟩
  | 126 => ⟨S1024x200, .i1⟩
  | 127 => ⟨S_, .i32⟩
  | _ => ⟨S1024x200x19, .i32⟩

abbrev hbmTy0_2 (i : Nat) : BufTy := match i % 128 with
  | 0 => ⟨S_, .f32⟩
  | 1 => ⟨S1024x200, .f32⟩
  | 2 => ⟨S1024x200, .f32⟩
  | 3 => ⟨S1024x200x1, .f32⟩
  | 4 => ⟨S1x1x17, .f32⟩
  | 5 => ⟨S1024x200x1, .f32⟩
  | 6 => ⟨S1024x200x17, .f32⟩
  | 7 => ⟨S1024x200x17, .f32⟩
  | 8 => ⟨S1024x200x17, .i1⟩
  | 9 => ⟨S1024x200x17, .f32⟩
  | 10 => ⟨S1024x200x20, .f32⟩
  | 11 => ⟨S1024x200x128, .f32⟩
  | 12 => ⟨S1x1x128, .f32⟩
  | 13 => ⟨S1024x200x128, .f32⟩
  | 14 => ⟨S1024x200x128, .f32⟩
  | 15 => ⟨S1024x200x1, .i32⟩
  | 16 => ⟨S1024x200, .i32⟩
  | 17 => ⟨S_, .i32⟩
  | 18 => ⟨S1024x200, .i32⟩
  | 19 => ⟨S1024x200, .i1⟩
  | 20 => ⟨S_, .i32⟩
  | 21 => ⟨S1024x200, .i32⟩
  | 22 => ⟨S1024x200, .i32⟩
  | 23 => ⟨S1024x200, .i32⟩
  | 24 => ⟨S1024x200x1, .i32⟩
  | 25 => ⟨S1, .i32⟩
  | 26 => ⟨S_, .i32⟩
  | 27 => ⟨S1024x200x1, .i32⟩
  | 28 => ⟨S1024x200x1, .i1⟩
  | 29 => ⟨S1x1x1, .i32⟩
  | 30 => ⟨S1024x200x1, .i32⟩
  | 31 => ⟨S1024x200x1, .i1⟩
  | 32 => ⟨S1024x200x1, .i1⟩
  | 33 => ⟨S_, .i1⟩
  | 34 => ⟨S1024x200, .i1⟩
  | 35 => ⟨S1024x200x128, .f32⟩
  | 36 => ⟨S1024x200x128, .i1⟩
  | 37 => ⟨S_, .f32⟩
  | 38 => ⟨S1024x200x128, .f32⟩
  | 39 => ⟨S1024x200x128, .f32⟩
  | 40 => ⟨S1024x200x1, .i32⟩
  | 41 => ⟨S1024x200, .i32⟩
  | 42 => ⟨S2, .i32⟩
  | 43 => ⟨S_, .i32⟩
  | 44 => ⟨S2, .i32⟩
  | 45 => ⟨S2, .i32⟩
  | 46 => ⟨S1024x200x1, .i32⟩
  | 47 => ⟨S1x1x2, .i32⟩
  | 48 => ⟨S1024x200x2, .i32⟩
  | 49 => ⟨S1024x200x2, .i32⟩
  | 50 => ⟨S1024x200x2, .i32⟩
  | 51 => ⟨S_, .i32⟩
  | 52 => ⟨S1024x200x2, .i32⟩
  | 53 => ⟨S1024x200x2, .i1⟩
  | 54 => ⟨S1024x200x2, .f32⟩
  | 55 => ⟨S1024x200x128, .f32⟩
  | 56 => ⟨S1x1x128, .f32⟩
  | 57 => ⟨S1024x200x128, .f32⟩
  | 58 => ⟨S1024x200x128, .f32⟩
  | 59 => ⟨S1024x200x128, .f32⟩
  | 60 => ⟨S1024x200x128, .f32⟩
  | 61 => ⟨S1024x200x128, .f32⟩
  | 62 => ⟨S1024x200x128, .f32⟩
  | 63 => ⟨S1024x200x128, .f32⟩
  | 64 => ⟨S1024x200x128, .f32⟩
  | 65 => ⟨S1024x200x128, .f32⟩
  | 66 => ⟨S1024x200x128, .f32⟩
  | 67 => ⟨S1024x200x128, .f32⟩
  | 68 => ⟨S1024x200x128, .f32⟩
  | 69 => ⟨S1024x200x128, .f32⟩
  | 70 => ⟨S_, .f32⟩
  | 71 => ⟨S_, .f32⟩
  | 72 => ⟨S1024x200x128, .i1⟩
  | 73 => ⟨S1024x200x128, .f32⟩
  | 74 => ⟨S1024x200x128, .f32⟩
  | 75 => ⟨S1024x200x128, .f32⟩
  | _ => ⟨S1024x200x19, .i32⟩

abbrev hbmTy (i : Nat) : BufTy := match i / 128 with
  | 0 => hbmTy0_0 i
  | 1 => hbmTy0_1 i
  | 2 => hbmTy0_2 i
  | _ => ⟨S1024x200x19, .i32⟩

abbrev bufTy : (tb : Table) → Fin (tcTables nBuf tb) → BufTy
  | .hbm, ⟨i, _⟩ => hbmTy i
  | _, _ => ⟨S1024x200x19, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_call5_c : Ref sig .tc := ⟨.hbm, 128, rfl⟩
abbrev main_call5_v0 : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_v5 : Ref sig .tc := ⟨.hbm, 135, rfl⟩
abbrev main_call5_c_1 : Ref sig .tc := ⟨.hbm, 136, rfl⟩
abbrev main_call5_c_2 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_c_3 : Ref sig .tc := ⟨.hbm, 144, rfl⟩
abbrev main_call5_v12 : Ref sig .tc := ⟨.hbm, 145, rfl⟩
abbrev main_call5_v13 : Ref sig .tc := ⟨.hbm, 146, rfl⟩
abbrev main_call5_v14 : Ref sig .tc := ⟨.hbm, 147, rfl⟩
abbrev main_call5_cst : Ref sig .tc := ⟨.hbm, 148, rfl⟩
abbrev main_call5_v15 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_call6_c : Ref sig .tc := ⟨.hbm, 153, rfl⟩
abbrev main_call6_v0 : Ref sig .tc := ⟨.hbm, 154, rfl⟩
abbrev main_call6_v1 : Ref sig .tc := ⟨.hbm, 155, rfl⟩
abbrev main_call6_c_0 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_call6_v5 : Ref sig .tc := ⟨.hbm, 160, rfl⟩
abbrev main_call6_c_1 : Ref sig .tc := ⟨.hbm, 161, rfl⟩
abbrev main_call6_c_2 : Ref sig .tc := ⟨.hbm, 162, rfl⟩
abbrev main_call6_v6 : Ref sig .tc := ⟨.hbm, 163, rfl⟩
abbrev main_call6_v7 : Ref sig .tc := ⟨.hbm, 164, rfl⟩
abbrev main_call6_v8 : Ref sig .tc := ⟨.hbm, 165, rfl⟩
abbrev main_call6_v9 : Ref sig .tc := ⟨.hbm, 166, rfl⟩
abbrev main_call6_v10 : Ref sig .tc := ⟨.hbm, 167, rfl⟩
abbrev main_call6_v11 : Ref sig .tc := ⟨.hbm, 168, rfl⟩
abbrev main_call6_c_3 : Ref sig .tc := ⟨.hbm, 169, rfl⟩
abbrev main_call6_v12 : Ref sig .tc := ⟨.hbm, 170, rfl⟩
abbrev main_call6_v13 : Ref sig .tc := ⟨.hbm, 171, rfl⟩
abbrev main_call6_v14 : Ref sig .tc := ⟨.hbm, 172, rfl⟩
abbrev main_call6_cst : Ref sig .tc := ⟨.hbm, 173, rfl⟩
abbrev main_call6_v15 : Ref sig .tc := ⟨.hbm, 174, rfl⟩
abbrev main_v34 : Ref sig .tc := ⟨.hbm, 175, rfl⟩
abbrev main_v35 : Ref sig .tc := ⟨.hbm, 176, rfl⟩
abbrev main_v36 : Ref sig .tc := ⟨.hbm, 177, rfl⟩
abbrev main_call7_c : Ref sig .tc := ⟨.hbm, 178, rfl⟩
abbrev main_call7_v0 : Ref sig .tc := ⟨.hbm, 179, rfl⟩
abbrev main_call7_v1 : Ref sig .tc := ⟨.hbm, 180, rfl⟩
abbrev main_call7_c_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_c_1 : Ref sig .tc := ⟨.hbm, 186, rfl⟩
abbrev main_call7_c_2 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_c_3 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_cst : Ref sig .tc := ⟨.hbm, 198, rfl⟩
abbrev main_call7_v15 : Ref sig .tc := ⟨.hbm, 199, rfl⟩
abbrev main_v37 : Ref sig .tc := ⟨.hbm, 200, rfl⟩
abbrev main_v38 : Ref sig .tc := ⟨.hbm, 201, rfl⟩
abbrev main_v39 : Ref sig .tc := ⟨.hbm, 202, rfl⟩
abbrev main_call8_c : Ref sig .tc := ⟨.hbm, 203, rfl⟩
abbrev main_call8_v0 : Ref sig .tc := ⟨.hbm, 204, rfl⟩
abbrev main_call8_v1 : Ref sig .tc := ⟨.hbm, 205, rfl⟩
abbrev main_call8_c_0 : Ref sig .tc := ⟨.hbm, 206, rfl⟩
abbrev main_call8_v2 : Ref sig .tc := ⟨.hbm, 207, rfl⟩
abbrev main_call8_v3 : Ref sig .tc := ⟨.hbm, 208, rfl⟩
abbrev main_call8_v4 : Ref sig .tc := ⟨.hbm, 209, rfl⟩
abbrev main_call8_v5 : Ref sig .tc := ⟨.hbm, 210, rfl⟩
abbrev main_call8_c_1 : Ref sig .tc := ⟨.hbm, 211, rfl⟩
abbrev main_call8_c_2 : Ref sig .tc := ⟨.hbm, 212, rfl⟩
abbrev main_call8_v6 : Ref sig .tc := ⟨.hbm, 213, rfl⟩
abbrev main_call8_v7 : Ref sig .tc := ⟨.hbm, 214, rfl⟩
abbrev main_call8_v8 : Ref sig .tc := ⟨.hbm, 215, rfl⟩
abbrev main_call8_v9 : Ref sig .tc := ⟨.hbm, 216, rfl⟩
abbrev main_call8_v10 : Ref sig .tc := ⟨.hbm, 217, rfl⟩
abbrev main_call8_v11 : Ref sig .tc := ⟨.hbm, 218, rfl⟩
abbrev main_call8_c_3 : Ref sig .tc := ⟨.hbm, 219, rfl⟩
abbrev main_call8_v12 : Ref sig .tc := ⟨.hbm, 220, rfl⟩
abbrev main_call8_v13 : Ref sig .tc := ⟨.hbm, 221, rfl⟩
abbrev main_call8_v14 : Ref sig .tc := ⟨.hbm, 222, rfl⟩
abbrev main_call8_cst : Ref sig .tc := ⟨.hbm, 223, rfl⟩
abbrev main_call8_v15 : Ref sig .tc := ⟨.hbm, 224, rfl⟩
abbrev main_v40 : Ref sig .tc := ⟨.hbm, 225, rfl⟩
abbrev main_v41 : Ref sig .tc := ⟨.hbm, 226, rfl⟩
abbrev main_v42 : Ref sig .tc := ⟨.hbm, 227, rfl⟩
abbrev main_v43 : Ref sig .tc := ⟨.hbm, 228, rfl⟩
abbrev main_v44 : Ref sig .tc := ⟨.hbm, 229, rfl⟩
abbrev main_v45 : Ref sig .tc := ⟨.hbm, 230, rfl⟩
abbrev main_v46 : Ref sig .tc := ⟨.hbm, 231, rfl⟩
abbrev main_v47 : Ref sig .tc := ⟨.hbm, 232, rfl⟩
abbrev main_v48 : Ref sig .tc := ⟨.hbm, 233, rfl⟩
abbrev main_v49 : Ref sig .tc := ⟨.hbm, 234, rfl⟩
abbrev main_cst_2 : Ref sig .tc := ⟨.hbm, 235, rfl⟩
abbrev main_v50 : Ref sig .tc := ⟨.hbm, 236, rfl⟩
abbrev main_v51 : Ref sig .tc := ⟨.hbm, 237, rfl⟩
abbrev main_v52 : Ref sig .tc := ⟨.hbm, 238, rfl⟩
abbrev main_v53 : Ref sig .tc := ⟨.hbm, 239, rfl⟩
abbrev main_v54 : Ref sig .tc := ⟨.hbm, 240, rfl⟩
abbrev main_v55 : Ref sig .tc := ⟨.hbm, 241, rfl⟩
abbrev main_v56 : Ref sig .tc := ⟨.hbm, 242, rfl⟩
abbrev main_v57 : Ref sig .tc := ⟨.hbm, 243, rfl⟩
abbrev main_c_3 : Ref sig .tc := ⟨.hbm, 244, rfl⟩
abbrev main_v58 : Ref sig .tc := ⟨.hbm, 245, rfl⟩
abbrev main_v59 : Ref sig .tc := ⟨.hbm, 246, rfl⟩
abbrev main_v60 : Ref sig .tc := ⟨.hbm, 247, rfl⟩
abbrev main_cst_4 : Ref sig .tc := ⟨.hbm, 248, rfl⟩
abbrev main_v61 : Ref sig .tc := ⟨.hbm, 249, rfl⟩
abbrev main_v62 : Ref sig .tc := ⟨.hbm, 250, rfl⟩
abbrev main_v63 : Ref sig .tc := ⟨.hbm, 251, rfl⟩
abbrev main_c_5 : Ref sig .tc := ⟨.hbm, 252, rfl⟩
abbrev main_v64 : Ref sig .tc := ⟨.hbm, 253, rfl⟩
abbrev main_v65 : Ref sig .tc := ⟨.hbm, 254, rfl⟩
abbrev main_c_6 : Ref sig .tc := ⟨.hbm, 255, rfl⟩
abbrev main_call9_v0 : Ref sig .tc := ⟨.hbm, 256, rfl⟩
abbrev main_call9_v1 : Ref sig .tc := ⟨.hbm, 257, rfl⟩
abbrev main_v66 : Ref sig .tc := ⟨.hbm, 258, rfl⟩
abbrev main_call10_v0 : Ref sig .tc := ⟨.hbm, 259, rfl⟩
abbrev main_call10_v1 : Ref sig .tc := ⟨.hbm, 260, rfl⟩
abbrev main_call10_v2 : Ref sig .tc := ⟨.hbm, 261, rfl⟩
abbrev main_call10_v3 : Ref sig .tc := ⟨.hbm, 262, rfl⟩
abbrev main_call10_v4 : Ref sig .tc := ⟨.hbm, 263, rfl⟩
abbrev main_call10_v5 : Ref sig .tc := ⟨.hbm, 264, rfl⟩
abbrev main_v67 : Ref sig .tc := ⟨.hbm, 265, rfl⟩
abbrev main_v68 : Ref sig .tc := ⟨.hbm, 266, rfl⟩
abbrev main_v69 : Ref sig .tc := ⟨.hbm, 267, rfl⟩
abbrev main_v70 : Ref sig .tc := ⟨.hbm, 268, rfl⟩
abbrev main_v71 : Ref sig .tc := ⟨.hbm, 269, rfl⟩
abbrev main_v72 : Ref sig .tc := ⟨.hbm, 270, rfl⟩
abbrev main_v73 : Ref sig .tc := ⟨.hbm, 271, rfl⟩
abbrev main_v74 : Ref sig .tc := ⟨.hbm, 272, rfl⟩
abbrev main_call11_c : Ref sig .tc := ⟨.hbm, 273, rfl⟩
abbrev main_call11_v0 : Ref sig .tc := ⟨.hbm, 274, rfl⟩
abbrev main_call11_v1 : Ref sig .tc := ⟨.hbm, 275, rfl⟩
abbrev main_call11_c_0 : Ref sig .tc := ⟨.hbm, 276, rfl⟩
abbrev main_call11_v2 : Ref sig .tc := ⟨.hbm, 277, rfl⟩
abbrev main_call11_v3 : Ref sig .tc := ⟨.hbm, 278, rfl⟩
abbrev main_call11_v4 : Ref sig .tc := ⟨.hbm, 279, rfl⟩
abbrev main_call11_v5 : Ref sig .tc := ⟨.hbm, 280, rfl⟩
abbrev main_call11_c_1 : Ref sig .tc := ⟨.hbm, 281, rfl⟩
abbrev main_call11_c_2 : Ref sig .tc := ⟨.hbm, 282, rfl⟩
abbrev main_call11_v6 : Ref sig .tc := ⟨.hbm, 283, rfl⟩
abbrev main_call11_v7 : Ref sig .tc := ⟨.hbm, 284, rfl⟩
abbrev main_call11_v8 : Ref sig .tc := ⟨.hbm, 285, rfl⟩
abbrev main_call11_v9 : Ref sig .tc := ⟨.hbm, 286, rfl⟩
abbrev main_call11_v10 : Ref sig .tc := ⟨.hbm, 287, rfl⟩
abbrev main_call11_v11 : Ref sig .tc := ⟨.hbm, 288, rfl⟩
abbrev main_call11_c_3 : Ref sig .tc := ⟨.hbm, 289, rfl⟩
abbrev main_call11_v12 : Ref sig .tc := ⟨.hbm, 290, rfl⟩
abbrev main_call11_v13 : Ref sig .tc := ⟨.hbm, 291, rfl⟩
abbrev main_call11_v14 : Ref sig .tc := ⟨.hbm, 292, rfl⟩
abbrev main_call11_cst : Ref sig .tc := ⟨.hbm, 293, rfl⟩
abbrev main_call11_v15 : Ref sig .tc := ⟨.hbm, 294, rfl⟩
abbrev main_v75 : Ref sig .tc := ⟨.hbm, 295, rfl⟩
abbrev main_v76 : Ref sig .tc := ⟨.hbm, 296, rfl⟩
abbrev main_v77 : Ref sig .tc := ⟨.hbm, 297, rfl⟩
abbrev main_v78 : Ref sig .tc := ⟨.hbm, 298, rfl⟩
abbrev main_c_7 : Ref sig .tc := ⟨.hbm, 299, rfl⟩
abbrev main_v79 : Ref sig .tc := ⟨.hbm, 300, rfl⟩
abbrev main_v80 : Ref sig .tc := ⟨.hbm, 301, rfl⟩
abbrev main_v81 : Ref sig .tc := ⟨.hbm, 302, rfl⟩
abbrev main_v82 : Ref sig .tc := ⟨.hbm, 303, rfl⟩
abbrev main_v83 : Ref sig .tc := ⟨.hbm, 304, rfl⟩
abbrev main_v84 : Ref sig .tc := ⟨.hbm, 305, rfl⟩
abbrev main_v85 : Ref sig .tc := ⟨.hbm, 306, rfl⟩
abbrev main_c_8 : Ref sig .tc := ⟨.hbm, 307, rfl⟩
abbrev main_v86 : Ref sig .tc := ⟨.hbm, 308, rfl⟩
abbrev main_v87 : Ref sig .tc := ⟨.hbm, 309, rfl⟩
abbrev main_v88 : Ref sig .tc := ⟨.hbm, 310, rfl⟩
abbrev main_v89 : Ref sig .tc := ⟨.hbm, 311, rfl⟩
abbrev main_v90 : Ref sig .tc := ⟨.hbm, 312, rfl⟩
abbrev main_v91 : Ref sig .tc := ⟨.hbm, 313, rfl⟩
abbrev main_v92 : Ref sig .tc := ⟨.hbm, 314, rfl⟩
abbrev main_v93 : Ref sig .tc := ⟨.hbm, 315, rfl⟩
abbrev main_v94 : Ref sig .tc := ⟨.hbm, 316, rfl⟩
abbrev main_v95 : Ref sig .tc := ⟨.hbm, 317, rfl⟩
abbrev main_v96 : Ref sig .tc := ⟨.hbm, 318, rfl⟩
abbrev main_v97 : Ref sig .tc := ⟨.hbm, 319, rfl⟩
abbrev main_v98 : Ref sig .tc := ⟨.hbm, 320, rfl⟩
abbrev main_v99 : Ref sig .tc := ⟨.hbm, 321, rfl⟩
abbrev main_v100 : Ref sig .tc := ⟨.hbm, 322, rfl⟩
abbrev main_v101 : Ref sig .tc := ⟨.hbm, 323, rfl⟩
abbrev main_v102 : Ref sig .tc := ⟨.hbm, 324, rfl⟩
abbrev main_v103 : Ref sig .tc := ⟨.hbm, 325, rfl⟩
abbrev main_cst_9 : Ref sig .tc := ⟨.hbm, 326, rfl⟩
abbrev main_call12_v0 : Ref sig .tc := ⟨.hbm, 327, rfl⟩
abbrev main_call12_v1 : Ref sig .tc := ⟨.hbm, 328, rfl⟩
abbrev main_call12_v2 : Ref sig .tc := ⟨.hbm, 329, rfl⟩
abbrev main_v104 : Ref sig .tc := ⟨.hbm, 330, rfl⟩
abbrev main_v105 : Ref sig .tc := ⟨.hbm, 331, rfl⟩

abbrev nD : Nat := 1
abbrev τ : Topo := Topo.v7x

variable {F : FTy → Type} [FloatOps F]
-- ==== Proof.KernelRun.lean ====
/- The kernel's run: every buffer of the host at the end of @main holds what the last boundary of the run says. -/
module

public import proofs.«01_k».proof.Proof.Gen.KernelIdeal
public import proofs.«01_k».proof.Proof.Gen.KernelIdeal.Frame

@[expose] public section

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen

variable {F : FTy → Type} [FloatOps F]

local notation "𝕄" => MT nD τ sig Unit (Elt F) ℕ (UR sig nD τ) ℕ

set_option backward.isDefEq.respectTransparency.types false in
/-- Every weakly fair execution of the kernel terminates without a fault, and in every final state each host buffer
    holds `W4`, the contents after @main's last region. -/
theorem run_boundary (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Values

end
-- ==== Proof.Spec.lean ====
/- The value of the program: one element of the result, in plain terms, from the arrays that the program is given. -/
module

public import Idealize.ShloMosaic.Lib.Pointwise

@[expose] public section

noncomputable section

namespace Cert.Spec

open Idealize.ShloMosaic

/-- The arrays that the program is given, in the order of its arguments. -/
structure Args where
  edges : Vec Ideal ⟨3, ![1024, 200, 19]⟩ .i32
  poke1 : Vec Ideal ⟨3, ![1024, 200, 128]⟩ .f32
  poke2 : Vec Ideal ⟨3, ![1024, 200, 128]⟩ .f32
  wPoke1 : Vec Ideal ⟨2, ![128, 128]⟩ .f32
  bPoke1 : Vec Ideal ⟨1, ![128]⟩ .f32
  wPoke2 : Vec Ideal ⟨2, ![128, 128]⟩ .f32
  bPoke2 : Vec Ideal ⟨1, ![128]⟩ .f32
  move : Vec Ideal ⟨2, ![919, 128]⟩ .f32
  item : Vec Ideal ⟨2, ![576, 128]⟩ .f32
  ability : Vec Ideal ⟨2, ![312, 128]⟩ .f32
  status : Vec Ideal ⟨2, ![8, 128]⟩ .f32
  edgeType : Vec Ideal ⟨2, ![16, 128]⟩ .f32
  major : Vec Ideal ⟨2, ![32, 128]⟩ .f32
  minor : Vec Ideal ⟨2, ![128, 128]⟩ .f32
  turn : Vec Ideal ⟨2, ![20, 128]⟩ .f32
  wBoosts : Vec Ideal ⟨2, ![7, 128]⟩ .f32
  bBoosts : Vec Ideal ⟨1, ![128]⟩ .f32
  wDamage : Vec Ideal ⟨2, ![20, 128]⟩ .f32
  bDamage : Vec Ideal ⟨1, ![128]⟩ .f32
  wSide : Vec Ideal ⟨2, ![2, 128]⟩ .f32
  bSide : Vec Ideal ⟨1, ![128]⟩ .f32

/-- Field `k` of edge `t` of row `b`, as a number. -/
def Args.field (A : Args) (b : Fin 1024) (t : Fin 200) (k : Fin 19) : ℕ := BitVec.toNat (A.edges (ix3 b t k) : BitVec 32)

/-- Every field is below eight. -/
def Args.InRange (A : Args) : Prop := ∀ b t k, A.field b t k < 8

/-- Row `n` of a table of `N` rows, at column `e` (the row is inside the table wherever this is used). -/
def row {N : ℕ} [NeZero N] (x : Vec Ideal ⟨2, ![N, 128]⟩ .f32) (n : ℕ) (e : Fin 128) : EReal := x (ix2 (Fin.ofNat N n) e)

/-- The twenty features of a damage field: the damage over 1023, its absolute value, its sign, and a one-hot of the bin
    of the damage among seventeen (bin eight for a small positive damage, none for no damage). -/
def damage (n : ℕ) (k : Fin 20) : EReal :=
  if k.val < 2 then (((n : ℝ) / 1023 : ℝ) : EReal) else if (k.val = 2 ∨ k.val = 11) ∧ n ≠ 0 then 1 else 0

/-- The two features of a side field: its two lowest bits. -/
def side (n : ℕ) (k : Fin 2) : EReal := if n / 2 ^ k.val % 2 = 1 then 1 else 0

/-- The sum of the program, from its thirteen parts and the six biases among them. -/
def Args.value (A : Args) (b : Fin 1024) (t : Fin 200) (e : Fin 128) : EReal :=
  (∑ k : Fin 128, A.poke1 (ix3 b t k) * A.wPoke1 (ix2 k e) + A.bPoke1 (ix1 e))
    + (∑ k : Fin 128, A.poke2 (ix3 b t k) * A.wPoke2 (ix2 k e) + A.bPoke2 (ix1 e))
    + row A.move (A.field b t 2) e + row A.item (A.field b t 3) e + row A.ability (A.field b t 4) e
    + row A.status (A.field b t 5) e
    + (∑ k : Fin 7, ((A.field b t (Fin.natAdd 12 k) : ℝ) : EReal) * A.wBoosts (ix2 k e) + A.bBoosts (ix1 e))
    + (∑ k : Fin 20, damage (A.field b t 11) k * A.wDamage (ix2 k e) + A.bDamage (ix1 e))
    + row A.turn (A.field b t 9) e + row A.edgeType (A.field b t 8) e + row A.major (A.field b t 6) e
    + row A.minor (A.field b t 7) e
    + (∑ k : Fin 2, side (A.field b t 10) k * A.wSide (ix2 k e) + A.bSide (ix1 e))

end Cert.Spec

end
-- ==== Proof.Numbers.lean ====
/- The few numbers that both programs' damage and side features are made of: quotients of reals, literals, and words below
   eight read as numbers. -/
module

public import proofs.«01_k».proof.Proof.Spec
public import Idealize.ShloMosaic.Lib.StableHlo.Predicate

@[expose] public section

noncomputable section

namespace Cert.Spec

open Idealize.ShloMosaic Idealize.ShloMosaic.StableHlo.Predicate

/-- The literal 1023. -/
theorem ofBits_1023 : Ideal.ofBits .f32 0x447FC000#32 = ((1023 : ℝ) : EReal) := by
  simp [Ideal.ofBits, Ideal.ieee, -EReal.coe_mul]; norm_num

/-- The literal 128. -/
theorem ofBits_128 : Ideal.ofBits .f32 0x43000000#32 = ((128 : ℝ) : EReal) := by
  simp [Ideal.ofBits, Ideal.ieee, -EReal.coe_mul]; norm_num

/-- A quotient of two reals, the divisor not zero. -/
theorem div_real (x y : ℝ) (h : y ≠ 0) : Ideal.div (x : EReal) (y : EReal) = ((x / y : ℝ) : EReal) := by
  unfold Ideal.div
  rw [if_neg (fun e => h (by exact_mod_cast e)), ← EReal.coe_inv, ← EReal.coe_mul, div_eq_mul_inv]

/-- A quotient by one. -/
theorem quotient_one (x : EReal) : Ideal.div x 1 = x := by
  unfold Ideal.div
  rw [if_neg one_ne_zero, ← EReal.coe_one, ← EReal.coe_inv, inv_one, EReal.coe_one, mul_one]

/-- A word below eight converts to the number that it holds. -/
theorem sitofp_small (w : BitVec 32) (hw : w.toNat < 8) :
    (FloatOps.sitofp (F := Ideal) .f32 w : EReal) = ((w.toNat : ℝ) : EReal) := by
  show ((w.toInt : ℝ) : EReal) = _
  rw [toInt_eq_toNat_of_lt (by omega)]
  simp

/-- A word is the word of the number that it holds. -/
theorem word_small (w : BitVec 32) : w = BitVec.ofNat 32 w.toNat := by
  rw [BitVec.ofNat_toNat, BitVec.setWidth_eq]

/-- The sign of a word, as a word. -/
abbrev signWord (w : BitVec 32) : BitVec 32 := if w = 0 then 0 else if w.msb then -1 else 1

/-- The sign of a word below eight: one, or zero at zero. -/
theorem sign_small (n : Fin 8) :
    (FloatOps.sitofp (F := Ideal) .f32 (signWord (BitVec.ofNat 32 n.val)) : EReal) = if n.val ≠ 0 then 1 else 0 := by
  have d : ∀ n : Fin 8, (signWord (BitVec.ofNat 32 n.val)).toInt = if n.val ≠ 0 then 1 else 0 := by decide +kernel
  show (((signWord (BitVec.ofNat 32 n.val)).toInt : ℝ) : EReal) = _
  rw [d]
  split <;> simp

/-- The bin of a small positive damage is bin eight. -/
theorem bin_small (n : Fin 8) (hn : n.val ≠ 0) :
    Ideal.liftRound Int.floor (Ideal.div
      (FloatOps.sitofp (F := Ideal) .f32 (IntOp.addi (BitVec.ofNat 32 n.val) 1023#32) : EReal)
      (Ideal.ofBits .f32 0x43000000#32)) = ((8 : ℝ) : EReal) := by
  have d : ∀ n : Fin 8, (IntOp.addi (BitVec.ofNat 32 n.val) 1023#32).toInt = (n.val : ℤ) + 1023 := by decide +kernel
  have s : (FloatOps.sitofp (F := Ideal) .f32 (IntOp.addi (BitVec.ofNat 32 n.val) 1023#32) : EReal)
      = (((n.val : ℝ) + 1023 : ℝ) : EReal) := by
    show (((IntOp.addi (BitVec.ofNat 32 n.val) 1023#32).toInt : ℝ) : EReal) = _
    rw [d]
    push_cast
    rfl
  rw [s, ofBits_128, div_real _ _ (by norm_num), Ideal.liftRound_coe]
  have f : ⌊((n.val : ℝ) + 1023) / 128⌋ = 8 := by
    rw [Int.floor_eq_iff]
    have h1 : (1 : ℝ) ≤ (n.val : ℝ) := by exact_mod_cast Nat.one_le_iff_ne_zero.2 hn
    have h2 : (n.val : ℝ) ≤ 7 := by exact_mod_cast Nat.le_of_lt_succ n.isLt
    constructor <;> push_cast <;> linarith
  rw [f]
  norm_num

end Cert.Spec

end
-- ==== Proof.Block.lean ====
/- What one block of the main call computes, at an index: the two products of the poke embeddings, and the product of
   the feature row of the edge with the table that the preparing call leaves. -/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Values

open Idealize.ShloMosaic Cert.KernelIdeal Cert.KernelIdeal.Gen

/-- The field that lane `l` of an edge's row reads: the edge's fields times column `l` of the selection matrix. -/
def picked (row : Fin 17 → BitVec 8) (sel : Vec Ideal S17x128 .f32) (l : Fin 128) : EReal :=
  ∑ k : Fin 17, (FloatOps.sitofp (F := Ideal) .f32 (row k) : EReal) * sel (ix2 k l)

/-- Lane `l` of an edge's feature row, from the field that the lane reads and the four lane constants: the value that
    a one-hot lane tests for, the marks of the one-hot lanes and of the lanes that keep their field, and the lane that
    is one. -/
def feature (r lane oneHot keep one : EReal) : EReal :=
  (FloatOps.sitofp (F := Ideal) .f32 (BitVec.setWidth 32 (BitVec.ofBool (decide (r = lane)))) : EReal) * oneHot + r * keep + one

/-- One element of the main call's result: the row's two embeddings against the two weight columns, and the row's
    features against the table's column. -/
def edgeOut (row : Fin 17 → BitVec 8) (p1 p2 w1 w2 wt : Fin 128 → EReal) (sel : Vec Ideal S17x128 .f32)
    (lanes : Vec Ideal S4x128 .f32) : EReal :=
  ∑ k : Fin 128, p1 k * w1 k + ∑ k : Fin 128, p2 k * w2 k
    + ∑ l : Fin 128, feature (picked row sel l) (lanes (ix2 0 l)) (lanes (ix2 1 l)) (lanes (ix2 2 l)) (lanes (ix2 3 l)) * wt l

/-- The block that the main call's body stores, read at an index. -/
theorem block_apply (x : Vec Ideal S64x200x17 .i8) (p1 p2 : Vec Ideal S64x200x128 .f32) (w1 w2 wt : Vec Ideal S128x128 .f32)
    (sel : Vec Ideal S17x128 .f32) (lane m1 m2 m3 : Vec Ideal S1x128 .f32) (b : Fin 64) (t : Fin 200) (e : Fin 128) :
    k1_pay1 (k1_pay2 x sel lane m1 m2 m3) (k1_pay3 p1 w1 p2 w2) wt (ix3 b t e)
      = ∑ k : Fin 128, p1 (ix3 b t k) * w1 (ix2 k e) + ∑ k : Fin 128, p2 (ix3 b t k) * w2 (ix2 k e)
        + ∑ l : Fin 128, feature (picked (fun k => x (ix3 b t k)) sel l) (lane (ix2 0 l)) (m1 (ix2 0 l)) (m2 (ix2 0 l))
            (m3 (ix2 0 l)) * wt (ix2 l e) := by
  pointwise [k1_pay1, k1_pay2, k1_pay3]
  rfl

end Cert.KernelIdeal.Values

end
-- ==== Proof.Lanes.lean ====
/- The lanes of an edge's feature row: which field each lane reads, what the lane holds, and the product of the row with a
   column of the table: ten of its rows picked by the fields, seven weighted by them, and the row of the summed bias. -/
module

public import proofs.«01_k».proof.Proof.Block
public import Idealize.ShloMosaic.Lib.IdealHost

@[expose] public section

set_option maxRecDepth 16384

noncomputable section

namespace Cert.KernelIdeal.Values

open Idealize.ShloMosaic Cert.KernelIdeal Cert.KernelIdeal.Gen

/-- The field that lane `l` reads (17 for a lane that reads none): eighty lanes in ten groups of eight, seven lanes of
    one field each. -/
def source (l : ℕ) : ℕ := if l < 80 then l / 8 else if l < 87 then l - 70 else 17

/-! ## The numbers that the literal tables hold -/

/-- The pattern of the number `r`, for `r` below eight. -/
def pattern : Fin 8 → BitVec 32 :=
  ![0x00000000#32, 0x3F800000#32, 0x40000000#32, 0x40400000#32, 0x40800000#32, 0x40A00000#32, 0x40C00000#32, 0x40E00000#32]

theorem pattern_value (r : Fin 8) : Ideal.ofBits .f32 (pattern r) = (((r.val : ℕ) : ℝ) : EReal) := by
  fin_cases r <;> simp [pattern, Ideal.ofBits, Ideal.ieee, -EReal.coe_mul] <;> norm_num

theorem ofBits_ite (p : Prop) [Decidable p] :
    Ideal.ofBits .f32 (if p then 0x3F800000#32 else 0x00000000#32) = if p then 1 else 0 := by
  split <;> simp

theorem lit3_entry : ∀ (k : Fin 17) (l : Fin 128),
    lit3 (S17x128.rowMajor (ix2 k l)) = if k.val = source l.val then 0x3F800000#32 else 0x00000000#32 := by decide +kernel

theorem lit4_entry : ∀ l : Fin 128,
    lit4 (S4x128.rowMajor (ix2 0 l)) = pattern ⟨l.val % 8, Nat.mod_lt _ (by decide)⟩
    ∧ lit4 (S4x128.rowMajor (ix2 1 l)) = (if l.val < 80 then 0x3F800000#32 else 0x00000000#32)
    ∧ lit4 (S4x128.rowMajor (ix2 2 l)) = (if 80 ≤ l.val ∧ l.val < 87 then 0x3F800000#32 else 0x00000000#32)
    ∧ lit4 (S4x128.rowMajor (ix2 3 l)) = (if l.val = 87 then 0x3F800000#32 else 0x00000000#32) := by decide +kernel

/-! ## A lane -/

/-- The selection matrix and the lane constants, as numbers. -/
structure LaneTables (sel : Vec Ideal S17x128 .f32) (lanes : Vec Ideal S4x128 .f32) : Prop where
  sel_entry : ∀ (k : Fin 17) (l : Fin 128), sel (ix2 k l) = (if k.val = source l.val then 1 else 0 : EReal)
  number : ∀ l : Fin 128, lanes (ix2 0 l) = (((l.val % 8 : ℕ) : ℝ) : EReal)
  oneHot : ∀ l : Fin 128, lanes (ix2 1 l) = (if l.val < 80 then 1 else 0 : EReal)
  keep : ∀ l : Fin 128, lanes (ix2 2 l) = (if 80 ≤ l.val ∧ l.val < 87 then 1 else 0 : EReal)
  one : ∀ l : Fin 128, lanes (ix2 3 l) = (if l.val = 87 then 1 else 0 : EReal)

theorem laneTables : LaneTables (fun i => FloatOps.ofBits (F := Ideal) .f32 (lit3 (S17x128.rowMajor i)))
    (fun i => FloatOps.ofBits (F := Ideal) .f32 (lit4 (S4x128.rowMajor i))) where
  sel_entry k l := by
    show Ideal.ofBits .f32 (lit3 (S17x128.rowMajor (ix2 k l))) = _
    rw [lit3_entry, ofBits_ite]
  number l := by
    show Ideal.ofBits .f32 (lit4 (S4x128.rowMajor (ix2 0 l))) = _
    rw [(lit4_entry l).1, pattern_value]
  oneHot l := by
    show Ideal.ofBits .f32 (lit4 (S4x128.rowMajor (ix2 1 l))) = _
    rw [(lit4_entry l).2.1, ofBits_ite]
  keep l := by
    show Ideal.ofBits .f32 (lit4 (S4x128.rowMajor (ix2 2 l))) = _
    rw [(lit4_entry l).2.2.1, ofBits_ite]
  one l := by
    show Ideal.ofBits .f32 (lit4 (S4x128.rowMajor (ix2 3 l))) = _
    rw [(lit4_entry l).2.2.2, ofBits_ite]

section

variable {sel : Vec Ideal S17x128 .f32} {lanes : Vec Ideal S4x128 .f32} (T : LaneTables sel lanes)
variable {x : Fin 17 → BitVec 8} {n : Fin 17 → ℕ}
variable (hx : ∀ k, (FloatOps.sitofp (F := Ideal) .f32 (x k) : EReal) = ((n k : ℝ) : EReal))

include T hx

/-- A lane that reads field `k` holds it. -/
theorem picked_field (l : Fin 128) (k : Fin 17) (h : source l.val = k.val) : picked x sel l = ((n k : ℝ) : EReal) := by
  unfold picked
  rw [Finset.sum_eq_single k]
  · rw [T.sel_entry, if_pos h.symm, mul_one, hx]
  · intro j _ hj
    rw [T.sel_entry, if_neg (fun e => hj (Fin.ext (e.trans h))), mul_zero]
  · intro h; exact absurd (Finset.mem_univ k) h

/-- A lane that reads no field holds zero. -/
theorem picked_none (l : Fin 128) (h : source l.val = 17) : picked x sel l = 0 := by
  unfold picked
  refine Finset.sum_eq_zero fun j _ => ?_
  rw [T.sel_entry, if_neg (by have := j.isLt; omega), mul_zero]

/-- Lane `8 * g + r` of the first eighty marks whether field `g` is `r`. -/
theorem feature_oneHot (l : Fin 128) (k : Fin 17) (r : ℕ) (hl : l.val = 8 * k.val + r) (hr : r < 8) (hk : k.val < 10) :
    feature (picked x sel l) (lanes (ix2 0 l)) (lanes (ix2 1 l)) (lanes (ix2 2 l)) (lanes (ix2 3 l))
      = if n k = r then 1 else 0 := by
  have hs : source l.val = k.val := by unfold source; rw [if_pos (by omega)]; omega
  have hm : l.val % 8 = r := by omega
  rw [picked_field T hx l k hs, T.number, T.oneHot, T.keep, T.one, if_pos (by omega), if_neg (by omega), if_neg (by omega), hm]
  unfold feature
  have he : (((n k : ℝ) : EReal) = ((r : ℝ) : EReal)) ↔ n k = r := by
    rw [EReal.coe_eq_coe_iff, Nat.cast_inj]
  rw [mul_one, mul_zero, add_zero, add_zero]
  show (((BitVec.setWidth 32 (BitVec.ofBool (decide (((n k : ℝ) : EReal) = ((r : ℝ) : EReal))))).toInt : ℝ) : EReal) = _
  by_cases h : n k = r
  · rw [if_pos h, decide_eq_true (he.mpr h)]
    rw [show (BitVec.setWidth 32 (BitVec.ofBool true)).toInt = 1 from by decide, Int.cast_one, EReal.coe_one]
  · rw [if_neg h, decide_eq_false (fun e => h (he.mp e))]
    rw [show (BitVec.setWidth 32 (BitVec.ofBool false)).toInt = 0 from by decide, Int.cast_zero, EReal.coe_zero]

/-- Lane `80 + r` keeps field `10 + r`. -/
theorem feature_keep (l : Fin 128) (k : Fin 17) (hl : l.val = 70 + k.val) (hk : 10 ≤ k.val) :
    feature (picked x sel l) (lanes (ix2 0 l)) (lanes (ix2 1 l)) (lanes (ix2 2 l)) (lanes (ix2 3 l)) = ((n k : ℝ) : EReal) := by
  have hs : source l.val = k.val := by
    unfold source
    have := k.isLt
    rw [if_neg (by omega), if_pos (by omega)]; omega
  have := k.isLt
  rw [picked_field T hx l k hs, T.oneHot, T.keep, T.one, if_neg (by omega), if_pos (by omega), if_neg (by omega)]
  unfold feature
  rw [mul_zero, zero_add, mul_one, add_zero]

/-- Lane 87 holds one. -/
theorem feature_one (l : Fin 128) (hl : l.val = 87) :
    feature (picked x sel l) (lanes (ix2 0 l)) (lanes (ix2 1 l)) (lanes (ix2 2 l)) (lanes (ix2 3 l)) = 1 := by
  rw [picked_none T hx l (by rw [hl]; rfl), T.oneHot, T.keep, T.one, if_neg (by omega), if_neg (by omega), if_pos hl]
  unfold feature
  rw [mul_zero, zero_add, zero_mul, zero_add]

/-- The lanes from 88 on hold zero. -/
theorem feature_zero (l : Fin 128) (hl : 88 ≤ l.val) :
    feature (picked x sel l) (lanes (ix2 0 l)) (lanes (ix2 1 l)) (lanes (ix2 2 l)) (lanes (ix2 3 l)) = 0 := by
  have hs : source l.val = 17 := by unfold source; rw [if_neg (by omega), if_neg (by omega)]
  rw [picked_none T hx l hs, T.oneHot, T.keep, T.one, if_neg (by omega), if_neg (by omega), if_neg (by omega)]
  unfold feature
  rw [mul_zero, zero_add, zero_mul, zero_add]

end

/-! ## The row against a column -/

/-- A sum over the 128 lanes, by sixteen groups of eight. -/
theorem sum_groups (f : Fin 128 → EReal) :
    ∑ l : Fin 128, f l = ∑ g : Fin 16, ∑ r : Fin 8, f ⟨8 * g.val + r.val, by have := g.isLt; have := r.isLt; omega⟩ := by
  rw [← Fintype.sum_prod_type' (f := fun (g : Fin 16) (r : Fin 8) => f ⟨8 * g.val + r.val, by have := g.isLt; have := r.isLt; omega⟩)]
  refine (Equiv.sum_comp (finProdFinEquiv : Fin 16 × Fin 8 ≃ Fin (16 * 8)) f).symm.trans ?_
  refine Finset.sum_congr rfl fun p _ => congrArg f (Fin.ext ?_)
  show p.2.val + 8 * p.1.val = 8 * p.1.val + p.2.val
  omega

/-- The feature row against a column `w` of the table: of each of the first ten groups the row that the field names, the
    seven boost rows weighted by their fields, and row 87. -/
theorem features_sum {sel : Vec Ideal S17x128 .f32} {lanes : Vec Ideal S4x128 .f32} (T : LaneTables sel lanes)
    {x : Fin 17 → BitVec 8} {n : Fin 17 → ℕ} (hn : ∀ k, n k < 8)
    (hx : ∀ k, (FloatOps.sitofp (F := Ideal) .f32 (x k) : EReal) = ((n k : ℝ) : EReal)) (w : ℕ → Fin 8 → EReal) :
    ∑ l : Fin 128, feature (picked x sel l) (lanes (ix2 0 l)) (lanes (ix2 1 l)) (lanes (ix2 2 l)) (lanes (ix2 3 l))
        * w (l.val / 8) ⟨l.val % 8, Nat.mod_lt _ (by decide)⟩
      = ∑ g : Fin 10, w g.val ⟨n (Fin.castLE (by decide) g), hn _⟩
        + (∑ r : Fin 7, ((n (Fin.natAdd 10 r) : ℝ) : EReal) * w 10 (Fin.castSucc r) + w 10 7) := by
  rw [sum_groups]
  have split : ∀ F : Fin 16 → EReal, ∑ g : Fin 16, F g
      = ∑ g : Fin 10, F (Fin.castLE (by decide) g) + (F 10 + ∑ g : Fin 5, F (Fin.natAdd 11 g)) := fun F => by
    rw [show (∑ g : Fin 16, F g) = ∑ g : Fin (10 + 6), F g from rfl, Fin.sum_univ_add]
    rw [show (∑ g : Fin 6, F (Fin.natAdd 10 g)) = ∑ g : Fin (5 + 1), F (Fin.natAdd 10 g) from rfl, Fin.sum_univ_succ]
    rfl
  have hw : ∀ (g : ℕ) (r : Fin 8) (h : 8 * g + r.val < 128),
      w ((⟨8 * g + r.val, h⟩ : Fin 128).val / 8) ⟨(⟨8 * g + r.val, h⟩ : Fin 128).val % 8, Nat.mod_lt _ (by decide)⟩ = w g r := by
    intro g r h
    have h1 : (8 * g + r.val) / 8 = g := by omega
    have h2 : (⟨(8 * g + r.val) % 8, Nat.mod_lt _ (by decide)⟩ : Fin 8) = r := Fin.ext (by show (8 * g + r.val) % 8 = _; omega)
    show w ((8 * g + r.val) / 8) ⟨(8 * g + r.val) % 8, Nat.mod_lt _ (by decide)⟩ = _
    rw [h1, h2]
  rw [split]
  refine congrArg₂ (· + ·) (Finset.sum_congr rfl fun g _ => ?_) ?_
  · have hg := g.isLt
    rw [Finset.sum_eq_single (⟨n (Fin.castLE (by decide) g), hn _⟩ : Fin 8)]
    · rw [feature_oneHot T hx _ (Fin.castLE (by decide) g) (n (Fin.castLE (by decide) g)) rfl (hn _) hg, if_pos rfl, one_mul]
      exact hw g.val _ _
    · intro r _ hr
      rw [feature_oneHot T hx _ (Fin.castLE (by decide) g) r.val rfl r.isLt hg,
        if_neg (fun e => hr (Fin.ext e.symm)), zero_mul]
    · intro h; exact absurd (Finset.mem_univ _) h
  · rw [← add_zero (∑ r : Fin 7, _ + w 10 7)]
    refine congrArg₂ (· + ·) ?_ (Finset.sum_eq_zero fun g _ => Finset.sum_eq_zero fun r _ => ?_)
    · rw [Fin.sum_univ_castSucc]
      refine congrArg₂ (· + ·) (Finset.sum_congr rfl fun r _ => ?_) ?_
      · rw [feature_keep T hx _ (Fin.natAdd 10 r) (by show 8 * 10 + r.val = 70 + (10 + r.val); omega) (by show 10 ≤ 10 + r.val; omega)]
        exact congrArg _ (hw 10 (Fin.castSucc r) (by have := r.isLt; show 8 * 10 + r.val < 128; omega))
      · rw [feature_one T hx _ rfl, one_mul]
        exact hw 10 7 (by decide)
    · rw [feature_zero T hx _ (by show 88 ≤ 8 * (11 + g.val) + r.val; omega), zero_mul]

end Cert.KernelIdeal.Values

end
-- ==== Proof.MainCall.lean ====
/- What the main call leaves in its result array, from the arrays that it finds. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Values

open Idealize.ShloMosaic Idealize.ShloMosaic.TcCoe Cert.KernelIdeal Cert.KernelIdeal.Gen

/-- The whole result of the main call: every element by `edgeOut`. -/
def mainOut (x : Vec Ideal S1024x200x17 .i8) (p1 p2 : Vec Ideal S1024x200x128 .f32) (w1 w2 wt : Vec Ideal S128x128 .f32)
    (sel : Vec Ideal S17x128 .f32) (lanes : Vec Ideal S4x128 .f32) : Vec Ideal S1024x200x128 .f32 := fun i =>
  edgeOut (fun k => x (ix3 (i 0) (i 1) k)) (fun k => p1 (ix3 (i 0) (i 1) k)) (fun k => p2 (ix3 (i 0) (i 1) k))
    (fun k => w1 (ix2 k (i 2))) (fun k => w2 (ix2 k (i 2))) (fun k => wt (ix2 k (i 2))) sel lanes

variable (V : (c : Dev nD) → (b : Ref sig .tc) → Buf (Elt Ideal) ((c : Thread nD τ).loc b))

/-- The block indices of the windows at grid point `t`: the three long arrays and the result go by sixty-four rows,
    the other windows are whole arrays. -/
theorem main_index : ∀ t : Fin cfg1.N,
    (win1_0.index t = ![t.val, 0, 0] ∧ win1_1.index t = ![t.val, 0, 0] ∧ win1_2.index t = ![t.val, 0, 0]
      ∧ win1_8.index t = ![t.val, 0, 0])
    ∧ (win1_3.index t = ![0, 0] ∧ win1_4.index t = ![0, 0] ∧ win1_5.index t = ![0, 0] ∧ win1_6.index t = ![0, 0]
      ∧ win1_7.index t = ![0, 0]) := by decide +kernel

/-- Row `b` of block `t`, in the long arrays. -/
abbrev rowOf (t : Fin cfg1.N) (b : Fin 64) : Fin 1024 := ⟨t.val * 64 + b.val, by
  have h : t.val < 16 := t.isLt
  omega⟩

theorem result_place (t : Fin cfg1.N) (b : Fin 64) (s : Fin 200) (e : Fin 128) :
    ((cfg1.win 8).blk t).view.emb (ix3 b s e) = (ix3 (rowOf t b) s e : S1024x200x128.Idx) := by
  blk_ext [main_index t]

theorem fields_read (c : Dev nD) (t : Fin cfg1.N) (b : Fin 64) (s : Fin 200) (k : Fin 17) :
    (iblk1 V c 0 t : Vec Ideal S64x200x17 .i8) (ix3 b s k) = V c main_v16 (ix3 (rowOf t b) s k) := by
  blk_ext [iblk1, main_index t]

theorem poke1_read (c : Dev nD) (t : Fin cfg1.N) (b : Fin 64) (s : Fin 200) (k : Fin 128) :
    (iblk1 V c 1 t : Vec Ideal S64x200x128 .f32) (ix3 b s k) = V c main_arg1 (ix3 (rowOf t b) s k) := by
  blk_ext [iblk1, main_index t]

theorem poke2_read (c : Dev nD) (t : Fin cfg1.N) (b : Fin 64) (s : Fin 200) (k : Fin 128) :
    (iblk1 V c 2 t : Vec Ideal S64x200x128 .f32) (ix3 b s k) = V c main_arg2 (ix3 (rowOf t b) s k) := by
  blk_ext [iblk1, main_index t]

theorem weight1_read (c : Dev nD) (t : Fin cfg1.N) (k e : Fin 128) :
    (iblk1 V c 3 t : Vec Ideal S128x128 .f32) (ix2 k e) = V c main_arg3 (ix2 k e) := by
  blk_ext [iblk1, main_index t]

theorem weight2_read (c : Dev nD) (t : Fin cfg1.N) (k e : Fin 128) :
    (iblk1 V c 4 t : Vec Ideal S128x128 .f32) (ix2 k e) = V c main_arg5 (ix2 k e) := by
  blk_ext [iblk1, main_index t]

theorem table_read (c : Dev nD) (t : Fin cfg1.N) (k e : Fin 128) :
    (iblk1 V c 5 t : Vec Ideal S128x128 .f32) (ix2 k e) = V c main_v14 (ix2 k e) := by
  blk_ext [iblk1, main_index t]

theorem selection_read (c : Dev nD) (t : Fin cfg1.N) : (iblk1 V c 6 t : Vec Ideal S17x128 .f32) = V c main_cst_2 := by
  funext i
  obtain ⟨k, l, rfl⟩ : ∃ (k : Fin 17) (l : Fin 128), i = ix2 k l := ⟨i 0, i 1, eq_ix2 i⟩
  blk_ext [iblk1, main_index t]

theorem lane_read (c : Dev nD) (t : Fin cfg1.N) (k : Fin 4) (l : Fin 128) :
    (iblk1 V c 7 t : Vec Ideal S4x128 .f32) (ix2 k l) = V c main_cst_3 (ix2 k l) := by
  blk_ext [iblk1, main_index t]

theorem lane_rows (X : Vec Ideal S4x128 .f32) (l : Fin 128) :
    View.ld X r1_2 (ix2 0 l) = X (ix2 0 l) ∧ View.ld X r1_3 (ix2 0 l) = X (ix2 1 l) ∧ View.ld X r1_4 (ix2 0 l) = X (ix2 2 l)
      ∧ View.ld X r1_5 (ix2 0 l) = X (ix2 3 l) := by
  refine ⟨congrArg X ?_, congrArg X ?_, congrArg X ?_, congrArg X ?_⟩ <;>
    exact funext fun a => Fin.ext (match a with | ⟨0, _⟩ => rfl | ⟨1, _⟩ => by simp [Rect.idx_unit_val])

/-- Features of equal fields and equal lane constants are equal. -/
theorem feature_congr {r r' l l' o o' k k' a a' : EReal} (hr : r = r') (hl : l = l') (ho : o = o') (hk : k = k') (ha : a = a') :
    feature r l o k a = feature r' l' o' k' a' := by rw [hr, hl, ho, hk, ha]

/-- After its sixteen grid points, the main call's result array holds `mainOut` of the arrays that the call found. -/
theorem main_array (c : Dev nD) :
    (dat1 V c).arrAt 8 cfg1.N
      = mainOut (V c main_v16) (V c main_arg1) (V c main_arg2) (V c main_arg3) (V c main_arg5) (V c main_v14)
          (V c main_cst_2) (V c main_cst_3) := by
  refine (dat1 V c).arrAt_eq_of_covers 8 _ (by decide +kernel) fun t hf y => ?_
  blk_simp
  rw [after1_8]
  frame_out
  obtain ⟨b, s, e, rfl⟩ : ∃ (b : Fin 64) (s : Fin 200) (e : Fin 128), y = ix3 b s e := ⟨y 0, y 1, y 2, eq_ix3 y⟩
  refine (block_apply _ _ _ _ _ _ _ _ _ _ _ b s e).trans ?_
  refine Eq.trans ?_ (congrArg (mainOut (V c main_v16) (V c main_arg1) (V c main_arg2) (V c main_arg3) (V c main_arg5)
    (V c main_v14) (V c main_cst_2) (V c main_cst_3)) (result_place t b s e)).symm
  refine congrArg₂ (· + ·) (congrArg₂ (· + ·) (Finset.sum_congr rfl fun k _ => ?_) (Finset.sum_congr rfl fun k _ => ?_))
    (Finset.sum_congr rfl fun l _ => ?_)
  · exact congrArg₂ (· * ·) (poke1_read V c t b s k) (weight1_read V c t k e)
  · exact congrArg₂ (· * ·) (poke2_read V c t b s k) (weight2_read V c t k e)
  · have h := lane_rows (iblk1 V c 7 t) l
    refine congrArg₂ (· * ·) (feature_congr ?_ (h.1.trans (lane_read V c t 0 l)) (h.2.1.trans (lane_read V c t 1 l))
      (h.2.2.1.trans (lane_read V c t 2 l)) (h.2.2.2.trans (lane_read V c t 3 l))) (table_read V c t l e)
    exact congrArg₂ (fun x s => picked x s l) (funext fun k => fields_read V c t b s k) (selection_read V c t)

end Cert.KernelIdeal.Values

end
-- ==== Proof.PrepCall.lean ====
/- What the preparing call leaves in its result array, from the arrays that it finds. -/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Values

open Idealize.ShloMosaic Idealize.ShloMosaic.TcCoe Cert.KernelIdeal Cert.KernelIdeal.Gen

/-- Row `r` of block `g` of the table: eight embedding tables of eight rows, the side rows and the damage rows (each the
    features of the value times the weights), the seven boost weights and the summed bias, and zeros. -/
def tableRow (mv it ab st ma mi ed tu : Vec Ideal S8x128 .f32) (wb : Vec Ideal S7x128 .f32) (wd : Vec Ideal S20x128 .f32)
    (ws : Vec Ideal S2x128 .f32) (bias : Vec Ideal S1x128 .f32) (df : Vec Ideal S8x20 .f32) (sf : Vec Ideal S8x2 .f32)
    (g : ℕ) (r : Fin 8) (e : Fin 128) : EReal :=
  match g with
  | 0 => mv (ix2 r e)
  | 1 => it (ix2 r e)
  | 2 => ab (ix2 r e)
  | 3 => st (ix2 r e)
  | 4 => ma (ix2 r e)
  | 5 => mi (ix2 r e)
  | 6 => ed (ix2 r e)
  | 7 => tu (ix2 r e)
  | 8 => ∑ k : Fin 2, sf (ix2 r k) * ws (ix2 k e)
  | 9 => ∑ k : Fin 20, df (ix2 r k) * wd (ix2 k e)
  | 10 => if h : r.val < 7 then wb (ix2 ⟨r.val, h⟩ e) else bias (ix2 0 e)
  | _ => 0

/-- The whole table: row `i` is row `i % 8` of block `i / 8`. -/
def prepOut (mv it ab st ma mi ed tu : Vec Ideal S8x128 .f32) (wb : Vec Ideal S7x128 .f32) (wd : Vec Ideal S20x128 .f32)
    (ws : Vec Ideal S2x128 .f32) (bias : Vec Ideal S1x128 .f32) (df : Vec Ideal S8x20 .f32) (sf : Vec Ideal S8x2 .f32) :
    Vec Ideal S128x128 .f32 := fun i =>
  tableRow mv it ab st ma mi ed tu wb wd ws bias df sf ((i 0 : Fin 128).val / 8) ⟨(i 0 : Fin 128).val % 8, Nat.mod_lt _ (by decide)⟩ (i 1)

/-- The table at a row given as `8 * g + r`. -/
theorem prepOut_of {mv it ab st ma mi ed tu : Vec Ideal S8x128 .f32} {wb : Vec Ideal S7x128 .f32} {wd : Vec Ideal S20x128 .f32}
    {ws : Vec Ideal S2x128 .f32} {bias : Vec Ideal S1x128 .f32} {df : Vec Ideal S8x20 .f32} {sf : Vec Ideal S8x2 .f32}
    {j : S128x128.Idx} (g : ℕ) (r : Fin 8) (e : Fin 128) (h0 : (j 0 : ℕ) = 8 * g + r.val) (h1 : (j 1 : ℕ) = e.val) :
    prepOut mv it ab st ma mi ed tu wb wd ws bias df sf j = tableRow mv it ab st ma mi ed tu wb wd ws bias df sf g r e := by
  have hg : (j 0 : ℕ) / 8 = g := by omega
  have hr : (⟨(j 0 : ℕ) % 8, Nat.mod_lt _ (by decide)⟩ : Fin 8) = r := Fin.ext (by show (j 0 : ℕ) % 8 = r.val; omega)
  have he : (j 1 : Fin 128) = e := Fin.ext h1
  show tableRow mv it ab st ma mi ed tu wb wd ws bias df sf ((j 0 : ℕ) / 8) ⟨(j 0 : ℕ) % 8, Nat.mod_lt _ (by decide)⟩ (j 1 : Fin 128) = _
  rw [hg, hr, he]

/-- From row 88 on the table holds zeros. -/
theorem tableRow_zero {mv it ab st ma mi ed tu : Vec Ideal S8x128 .f32} {wb : Vec Ideal S7x128 .f32} {wd : Vec Ideal S20x128 .f32}
    {ws : Vec Ideal S2x128 .f32} {bias : Vec Ideal S1x128 .f32} {df : Vec Ideal S8x20 .f32} {sf : Vec Ideal S8x2 .f32}
    (g : ℕ) (r : Fin 8) (e : Fin 128) (h : 11 ≤ g) : tableRow mv it ab st ma mi ed tu wb wd ws bias df sf g r e = 0 := by
  unfold tableRow
  split <;> first | omega | rfl

/-! ## What the stored values are, at an index -/

/-- The tables' payloads are the tables. -/
theorem copied (x : Vec Ideal S8x128 .f32) : k0_pay7 x = x ∧ k0_pay8 x = x ∧ k0_pay9 x = x ∧ k0_pay10 x = x ∧ k0_pay11 x = x
    ∧ k0_pay1 x = x ∧ k0_pay2 x = x := by
  refine ⟨?_, ?_, ?_, ?_, ?_, ?_, ?_⟩ <;>
  · funext i
    obtain ⟨r, e, rfl⟩ : ∃ (r : Fin 8) (e : Fin 128), i = ix2 r e := ⟨i 0, i 1, eq_ix2 i⟩
    pointwise [k0_pay7, k0_pay8, k0_pay9, k0_pay10, k0_pay11, k0_pay1, k0_pay2]

theorem side_apply (sf : Vec Ideal S8x2 .f32) (ws : Vec Ideal S2x128 .f32) (r : Fin 8) (e : Fin 128) :
    k0_pay5 sf ws (ix2 r e) = (∑ k : Fin 2, sf (ix2 r k) * ws (ix2 k e) : EReal) := by
  pointwise [k0_pay5]

theorem damage_apply (df : Vec Ideal S8x20 .f32) (wd : Vec Ideal S20x128 .f32) (r : Fin 8) (e : Fin 128) :
    k0_pay6 df wd (ix2 r e) = (∑ k : Fin 20, df (ix2 r k) * wd (ix2 k e) : EReal) := by
  pointwise [k0_pay6]

theorem boosts_apply (wb : Vec Ideal S7x128 .f32) (bias : Vec Ideal S1x128 .f32) (r : Fin 8) (e : Fin 128) :
    k0_pay3 wb bias (ix2 r e) = (if h : r.val < 7 then wb (ix2 ⟨r.val, h⟩ e) else bias (ix2 0 e) : EReal) := by
  pointwise [k0_pay3]
  by_cases h : r.val < 7
  · rw [dif_pos h, dif_pos h]
  · rw [dif_neg h, dif_neg h]
    exact congrArg (fun k : Fin 1 => bias (ix2 k e)) (Subsingleton.elim _ _)

theorem zeros_apply (x : S40x128.Idx) : (k0_pay4 (F := Ideal)) x = (0 : EReal) := by
  pointwise [k0_pay4]

variable (V : (c : Dev nD) → (b : Ref sig .tc) → Buf (Elt Ideal) ((c : Thread nD τ).loc b))

/-! The call has one grid point: each window's block is its whole array. -/

theorem block_0 (c : Dev nD) : iblk0 V c 0 t0_0 = V c main_v5 := by
  funext i
  obtain ⟨r, k, rfl⟩ : ∃ (r : Fin 8) (k : Fin 128), i = ix2 r k := ⟨i 0, i 1, eq_ix2 i⟩
  have h : win0_0.index t0_0 = ![0, 0] := by decide +kernel
  blk_ext [iblk0, h]

theorem block_1 (c : Dev nD) : iblk0 V c 1 t0_0 = V c main_v6 := by
  funext i
  obtain ⟨r, k, rfl⟩ : ∃ (r : Fin 8) (k : Fin 128), i = ix2 r k := ⟨i 0, i 1, eq_ix2 i⟩
  have h : win0_1.index t0_0 = ![0, 0] := by decide +kernel
  blk_ext [iblk0, h]

theorem block_2 (c : Dev nD) : iblk0 V c 2 t0_0 = V c main_v7 := by
  funext i
  obtain ⟨r, k, rfl⟩ : ∃ (r : Fin 8) (k : Fin 128), i = ix2 r k := ⟨i 0, i 1, eq_ix2 i⟩
  have h : win0_2.index t0_0 = ![0, 0] := by decide +kernel
  blk_ext [iblk0, h]

theorem block_3 (c : Dev nD) : iblk0 V c 3 t0_0 = V c main_arg10 := by
  funext i
  obtain ⟨r, k, rfl⟩ : ∃ (r : Fin 8) (k : Fin 128), i = ix2 r k := ⟨i 0, i 1, eq_ix2 i⟩
  have h : win0_3.index t0_0 = ![0, 0] := by decide +kernel
  blk_ext [iblk0, h]

theorem block_4 (c : Dev nD) : iblk0 V c 4 t0_0 = V c main_v8 := by
  funext i
  obtain ⟨r, k, rfl⟩ : ∃ (r : Fin 8) (k : Fin 128), i = ix2 r k := ⟨i 0, i 1, eq_ix2 i⟩
  have h : win0_4.index t0_0 = ![0, 0] := by decide +kernel
  blk_ext [iblk0, h]

theorem block_5 (c : Dev nD) : iblk0 V c 5 t0_0 = V c main_v9 := by
  funext i
  obtain ⟨r, k, rfl⟩ : ∃ (r : Fin 8) (k : Fin 128), i = ix2 r k := ⟨i 0, i 1, eq_ix2 i⟩
  have h : win0_5.index t0_0 = ![0, 0] := by decide +kernel
  blk_ext [iblk0, h]

theorem block_6 (c : Dev nD) : iblk0 V c 6 t0_0 = V c main_v10 := by
  funext i
  obtain ⟨r, k, rfl⟩ : ∃ (r : Fin 8) (k : Fin 128), i = ix2 r k := ⟨i 0, i 1, eq_ix2 i⟩
  have h : win0_6.index t0_0 = ![0, 0] := by decide +kernel
  blk_ext [iblk0, h]

theorem block_7 (c : Dev nD) : iblk0 V c 7 t0_0 = V c main_v11 := by
  funext i
  obtain ⟨r, k, rfl⟩ : ∃ (r : Fin 8) (k : Fin 128), i = ix2 r k := ⟨i 0, i 1, eq_ix2 i⟩
  have h : win0_7.index t0_0 = ![0, 0] := by decide +kernel
  blk_ext [iblk0, h]

theorem block_8 (c : Dev nD) : iblk0 V c 8 t0_0 = V c main_arg15 := by
  funext i
  obtain ⟨r, k, rfl⟩ : ∃ (r : Fin 7) (k : Fin 128), i = ix2 r k := ⟨i 0, i 1, eq_ix2 i⟩
  have h : win0_8.index t0_0 = ![0, 0] := by decide +kernel
  blk_ext [iblk0, h]

theorem block_9 (c : Dev nD) : iblk0 V c 9 t0_0 = V c main_arg17 := by
  funext i
  obtain ⟨r, k, rfl⟩ : ∃ (r : Fin 20) (k : Fin 128), i = ix2 r k := ⟨i 0, i 1, eq_ix2 i⟩
  have h : win0_9.index t0_0 = ![0, 0] := by decide +kernel
  blk_ext [iblk0, h]

theorem block_10 (c : Dev nD) : iblk0 V c 10 t0_0 = V c main_arg19 := by
  funext i
  obtain ⟨r, k, rfl⟩ : ∃ (r : Fin 2) (k : Fin 128), i = ix2 r k := ⟨i 0, i 1, eq_ix2 i⟩
  have h : win0_10.index t0_0 = ![0, 0] := by decide +kernel
  blk_ext [iblk0, h]

theorem block_11 (c : Dev nD) : iblk0 V c 11 t0_0 = V c main_v4 := by
  funext i
  obtain ⟨r, k, rfl⟩ : ∃ (r : Fin 1) (k : Fin 128), i = ix2 r k := ⟨i 0, i 1, eq_ix2 i⟩
  have h : win0_11.index t0_0 = ![0, 0] := by decide +kernel
  blk_ext [iblk0, h]

theorem block_12 (c : Dev nD) : iblk0 V c 12 t0_0 = V c main_v13 := by
  funext i
  obtain ⟨r, k, rfl⟩ : ∃ (r : Fin 8) (k : Fin 20), i = ix2 r k := ⟨i 0, i 1, eq_ix2 i⟩
  have h : win0_12.index t0_0 = ![0, 0] := by decide +kernel
  blk_ext [iblk0, h]

theorem block_13 (c : Dev nD) : iblk0 V c 13 t0_0 = V c main_cst_1 := by
  funext i
  obtain ⟨r, k, rfl⟩ : ∃ (r : Fin 8) (k : Fin 2), i = ix2 r k := ⟨i 0, i 1, eq_ix2 i⟩
  have h : win0_13.index t0_0 = ![0, 0] := by decide +kernel
  blk_ext [iblk0, h]

theorem prep_array (c : Dev nD) :
    (dat0 V c).arrAt 14 cfg0.N
      = prepOut (V c main_v5) (V c main_v6) (V c main_v7) (V c main_arg10) (V c main_v8) (V c main_v9) (V c main_v10)
          (V c main_v11) (V c main_arg15) (V c main_arg17) (V c main_arg19) (V c main_v4) (V c main_v13) (V c main_cst_1) := by
  refine (dat0 V c).arrAt_eq_of_after_last 14 t0_0 (by decide +kernel) _ fun j => ?_
  blk_simp
  rw [after0_14]

  unfold outsAt0
  frame_out
  simp only [read_unread_whole, block_0, block_1, block_2, block_3, block_4, block_5, block_6, block_7, block_8, block_9, block_10, block_11, block_12, block_13]
  canon_tiles x h using View.cover_of_tiledBy _ ![8, 128] (by sl_kernel_rfl) _
  · obtain ⟨r, e, rfl⟩ : ∃ (r : Fin 40) (e : Fin 128), x = ix2 r e := ⟨x 0, x 1, eq_ix2 x⟩
    replace h0 : (j 0 : ℕ) = 88 + r.val := h0
    rw [zeros_apply, prepOut_of (11 + r.val / 8) ⟨r.val % 8, Nat.mod_lt _ (by decide)⟩ e (by show _ = _ + r.val % 8; omega) h1,
      tableRow_zero _ _ _ (by omega)]
  all_goals
    obtain ⟨r, e, rfl⟩ : ∃ (r : Fin 8) (e : Fin 128), x = ix2 r e := ⟨x 0, x 1, eq_ix2 x⟩
  · rw [boosts_apply, prepOut_of 10 r e h0 h1]; rfl
  · rw [damage_apply, prepOut_of 9 r e h0 h1]; rfl
  · rw [side_apply, prepOut_of 8 r e h0 h1]; rfl
  · rw [(copied _).2.2.2.2.2.2, prepOut_of 7 r e h0 h1]; rfl
  · rw [(copied _).2.2.2.2.2.1, prepOut_of 6 r e h0 h1]; rfl
  · rw [(copied _).2.2.2.2.1, prepOut_of 5 r e h0 h1]; rfl
  · rw [(copied _).2.2.2.1, prepOut_of 4 r e h0 h1]; rfl
  · rw [prepOut_of 3 r e h0 h1]; rfl
  · rw [(copied _).2.2.1, prepOut_of 2 r e h0 h1]; rfl
  · rw [(copied _).2.1, prepOut_of 1 r e h0 h1]; rfl
  · rw [(copied _).1, prepOut_of 0 r e (by show _ = 8 * 0 + r.val; have : (j 0 : ℕ) = r.val := h0; omega) h1]; rfl

end Cert.KernelIdeal.Values

end
-- ==== Proof.KernelValue.lean ====
/- What the kernel's program leaves in its result array, from the arrays at launch: the host's operations around the two
   calls, read at an index, and the two calls' arrays put together. -/
module

public import proofs.«01_k».proof.Proof.Spec
public import proofs.«01_k».proof.Proof.Numbers
public import proofs.«01_k».proof.Proof.Lanes
public import proofs.«01_k».proof.Proof.MainCall
public import proofs.«01_k».proof.Proof.PrepCall

@[expose] public section

set_option maxRecDepth 16384

noncomputable section

namespace Cert.KernelIdeal.Values

open Idealize.ShloMosaic Idealize.ShloMosaic.TcCoe Idealize.SL.Sem Cert.KernelIdeal Cert.KernelIdeal.Gen Cert.Spec

variable (m : (l : Loc nD τ sig) → Buf (Elt Ideal) l) (ρ : Dev nD → PrngReg) (c : Dev nD)

/-- The kernel's arguments on one device, at launch. -/
def launchArgs : Args where
  edges := m ((c : Thread nD τ).loc main_arg0)
  poke1 := m ((c : Thread nD τ).loc main_arg1)
  poke2 := m ((c : Thread nD τ).loc main_arg2)
  wPoke1 := m ((c : Thread nD τ).loc main_arg3)
  bPoke1 := m ((c : Thread nD τ).loc main_arg4)
  wPoke2 := m ((c : Thread nD τ).loc main_arg5)
  bPoke2 := m ((c : Thread nD τ).loc main_arg6)
  move := m ((c : Thread nD τ).loc main_arg7)
  item := m ((c : Thread nD τ).loc main_arg8)
  ability := m ((c : Thread nD τ).loc main_arg9)
  status := m ((c : Thread nD τ).loc main_arg10)
  edgeType := m ((c : Thread nD τ).loc main_arg11)
  major := m ((c : Thread nD τ).loc main_arg12)
  minor := m ((c : Thread nD τ).loc main_arg13)
  turn := m ((c : Thread nD τ).loc main_arg14)
  wBoosts := m ((c : Thread nD τ).loc main_arg15)
  bBoosts := m ((c : Thread nD τ).loc main_arg16)
  wDamage := m ((c : Thread nD τ).loc main_arg17)
  bDamage := m ((c : Thread nD τ).loc main_arg18)
  wSide := m ((c : Thread nD τ).loc main_arg19)
  bSide := m ((c : Thread nD τ).loc main_arg20)

/-! ## The host's operations before the preparing call -/

/-- The first eight rows of a table, sliced, are rows of the table. -/
theorem rows_apply {N : ℕ} [NeZero N] (hN : 8 ≤ N) (x : Vec Ideal ⟨2, ![N, 128]⟩ .f32)
    (h : (⟨2, ![N, 128]⟩ : Shape).Slices ![0, 0] S8x128) (r : Fin 8) (e : Fin 128) :
    extractStridedSlice S8x128 ![0, 0] x h (ix2 r e) = row x r.val e := by
  unfold row
  refine congrArg x (funext fun a => Fin.ext ?_)
  have hr : r.val % N = r.val := Nat.mod_eq_of_lt (lt_of_lt_of_le r.isLt hN)
  match a with
  | ⟨0, _⟩ => show 0 + r.val = r.val % N; omega
  | ⟨1, _⟩ => show 0 + e.val = e.val; omega

theorem at_v4 (e : Fin 128) : V1 m ρ c main_v4 (ix2 0 e)
    = ((launchArgs m c).bPoke1 (ix1 e) + (launchArgs m c).bPoke2 (ix1 e) + (launchArgs m c).bBoosts (ix1 e)
      + (launchArgs m c).bDamage (ix1 e) + (launchArgs m c).bSide (ix1 e) : EReal) := by
  show StableHlo.after hostOps0 (W0 m ρ c) main_v4 (ix2 0 e) = _
  after_results
  pointwise []
  rfl

theorem at_v5 (r : Fin 8) (e : Fin 128) : V1 m ρ c main_v5 (ix2 r e) = row (launchArgs m c).move r.val e := by
  show StableHlo.after hostOps0 (W0 m ρ c) main_v5 (ix2 r e) = _
  after_results
  exact rows_apply (by decide) _ _ r e

theorem at_v6 (r : Fin 8) (e : Fin 128) : V1 m ρ c main_v6 (ix2 r e) = row (launchArgs m c).item r.val e := by
  show StableHlo.after hostOps0 (W0 m ρ c) main_v6 (ix2 r e) = _
  after_results
  exact rows_apply (by decide) _ _ r e

theorem at_v7 (r : Fin 8) (e : Fin 128) : V1 m ρ c main_v7 (ix2 r e) = row (launchArgs m c).ability r.val e := by
  show StableHlo.after hostOps0 (W0 m ρ c) main_v7 (ix2 r e) = _
  after_results
  exact rows_apply (by decide) _ _ r e

theorem at_v8 (r : Fin 8) (e : Fin 128) : V1 m ρ c main_v8 (ix2 r e) = row (launchArgs m c).major r.val e := by
  show StableHlo.after hostOps0 (W0 m ρ c) main_v8 (ix2 r e) = _
  after_results
  exact rows_apply (by decide) _ _ r e

theorem at_v9 (r : Fin 8) (e : Fin 128) : V1 m ρ c main_v9 (ix2 r e) = row (launchArgs m c).minor r.val e := by
  show StableHlo.after hostOps0 (W0 m ρ c) main_v9 (ix2 r e) = _
  after_results
  exact rows_apply (by decide) _ _ r e

theorem at_v10 (r : Fin 8) (e : Fin 128) : V1 m ρ c main_v10 (ix2 r e) = row (launchArgs m c).edgeType r.val e := by
  show StableHlo.after hostOps0 (W0 m ρ c) main_v10 (ix2 r e) = _
  after_results
  exact rows_apply (by decide) _ _ r e

theorem at_v11 (r : Fin 8) (e : Fin 128) : V1 m ρ c main_v11 (ix2 r e) = row (launchArgs m c).turn r.val e := by
  show StableHlo.after hostOps0 (W0 m ρ c) main_v11 (ix2 r e) = _
  after_results
  exact rows_apply (by decide) _ _ r e

theorem at_cst_1 : V1 m ρ c main_cst_1 = fun i => FloatOps.ofBits (F := Ideal) .f32 (lit2 (S8x2.rowMajor i)) := by
  show StableHlo.after hostOps0 (W0 m ρ c) main_cst_1 = _
  after_results
  rfl

theorem lit2_entry : ∀ (r : Fin 8) (k : Fin 2),
    lit2 (S8x2.rowMajor (ix2 r k)) = if r.val / 2 ^ k.val % 2 = 1 then 0x3F800000#32 else 0x00000000#32 := by decide +kernel

/-- The side features of the eight side fields. -/
theorem at_side (r : Fin 8) (k : Fin 2) : V1 m ρ c main_cst_1 (ix2 r k) = side r.val k := by
  rw [at_cst_1]
  show Ideal.ofBits .f32 (lit2 (S8x2.rowMajor (ix2 r k))) = _
  rw [lit2_entry, ofBits_ite]
  rfl

theorem lit0_entry : ∀ (r : Fin 8) (k : Fin 20), lit0 (S8x20.rowMajor (ix2 r k))
    = if k.val < 2 then pattern r else if (k.val = 2 ∨ k.val = 11) ∧ r.val ≠ 0 then 0x3F800000#32 else 0x00000000#32 := by
  decide +kernel

theorem lit1_entry : ∀ k : Fin 20, lit1 (S1x20.rowMajor (ix2 0 k)) = if k.val < 2 then 0x447FC000#32 else 0x3F800000#32 := by
  decide +kernel

/-- The damage features of the eight damage fields. -/
theorem at_v13 (r : Fin 8) (k : Fin 20) : V1 m ρ c main_v13 (ix2 r k) = damage r.val k := by
  show StableHlo.after hostOps0 (W0 m ρ c) main_v13 (ix2 r k) = _
  after_results
  pointwise []
  show Ideal.div (Ideal.ofBits .f32 (lit0 (S8x20.rowMajor (ix2 r k)))) (Ideal.ofBits .f32 (lit1 (S1x20.rowMajor (ix2 0 k)))) = _
  rw [lit0_entry, lit1_entry]
  unfold damage
  by_cases h : k.val < 2
  · rw [if_pos h, if_pos h, if_pos h, pattern_value, ofBits_1023]
    exact div_real _ _ (by norm_num)
  · rw [if_neg h, if_neg h, if_neg h, ofBits_ite, Ideal.ofBits_one_f32, quotient_one]

/-- The eight-bit fields that the main call reads. -/
theorem at_v16 (b : Fin 1024) (t : Fin 200) (k : Fin 17) :
    V3 m ρ c main_v16 (ix3 b t k) = BitVec.setWidth 8 ((launchArgs m c).edges (ix3 b t (Fin.natAdd 2 k)) : BitVec 32) := by
  show StableHlo.after hostOps1 (W2 m ρ c) main_v16 (ix3 b t k) = _
  after_results
  rw [W2_args m ρ c main_arg0 (by decide)]
  pointwise []
  refine congrArg (BitVec.setWidth 8) (congrArg (m ((c : Thread nD τ).loc main_arg0)) (funext fun a => Fin.ext ?_))
  match a with
  | ⟨0, _⟩ => rfl
  | ⟨1, _⟩ => rfl
  | ⟨2, _⟩ => rfl

/-! ## The arrays that the main call finds -/

theorem at_v14 : V3 m ρ c main_v14 = prepOut (V1 m ρ c main_v5) (V1 m ρ c main_v6) (V1 m ρ c main_v7) (V1 m ρ c main_arg10)
    (V1 m ρ c main_v8) (V1 m ρ c main_v9) (V1 m ρ c main_v10) (V1 m ρ c main_v11) (V1 m ρ c main_arg15) (V1 m ρ c main_arg17)
    (V1 m ρ c main_arg19) (V1 m ρ c main_v4) (V1 m ρ c main_v13) (V1 m ρ c main_cst_1) :=
  (W3_of m ρ c main_v14 (by decide)).trans ((W2_arr m ρ c 14).trans (prep_array (V1 m ρ) c))

theorem at_cst_2 : V3 m ρ c main_cst_2 = fun i => FloatOps.ofBits (F := Ideal) .f32 (lit3 (S17x128.rowMajor i)) := by
  refine (W3_of m ρ c main_cst_2 (by decide)).trans ((W2_of_ne m ρ c main_cst_2 (by decide)).trans ?_)
  show StableHlo.after hostOps0 (W0 m ρ c) main_cst_2 = _
  after_results
  rfl

theorem at_cst_3 : V3 m ρ c main_cst_3 = fun i => FloatOps.ofBits (F := Ideal) .f32 (lit4 (S4x128.rowMajor i)) := by
  refine (W3_of m ρ c main_cst_3 (by decide)).trans ((W2_of_ne m ρ c main_cst_3 (by decide)).trans ?_)
  show StableHlo.after hostOps0 (W0 m ρ c) main_cst_3 = _
  after_results
  rfl

/-- A field below eight, narrowed to eight bits and read as a signed number, is the field. -/
theorem narrow_value (x : BitVec 32) (h : x.toNat < 8) :
    (FloatOps.sitofp (F := Ideal) .f32 (BitVec.setWidth 8 x) : EReal) = ((x.toNat : ℝ) : EReal) := by
  have hn : (BitVec.setWidth 8 x).toNat = x.toNat := by
    rw [BitVec.toNat_setWidth]; omega
  have hi : (BitVec.setWidth 8 x).toInt = (x.toNat : ℤ) := by
    rw [BitVec.toInt_eq_toNat_of_lt (by omega), hn]
  show (((BitVec.setWidth 8 x).toInt : ℝ) : EReal) = _
  rw [hi, Int.cast_natCast]

/-! ## The result -/

/-- Row `r` of block `g` of the table that the preparing call leaves, at column `e`. -/
def table (g : ℕ) (r : Fin 8) (e : Fin 128) : EReal :=
  tableRow (V1 m ρ c main_v5) (V1 m ρ c main_v6) (V1 m ρ c main_v7) (V1 m ρ c main_arg10)
    (V1 m ρ c main_v8) (V1 m ρ c main_v9) (V1 m ρ c main_v10) (V1 m ρ c main_v11) (V1 m ρ c main_arg15) (V1 m ρ c main_arg17)
    (V1 m ρ c main_arg19) (V1 m ρ c main_v4) (V1 m ρ c main_v13) (V1 m ρ c main_cst_1) g r e

/-- The result as the main call computes it: two products, ten rows of the table, seven weighted rows, and a bias row. -/
theorem result_sums (h : (launchArgs m c).InRange) (b : Fin 1024) (t : Fin 200) (e : Fin 128) :
    W4 m ρ c (Proc.devRef .tc main_v17) (ix3 b t e)
      = ∑ k : Fin 128, (launchArgs m c).poke1 (ix3 b t k) * (launchArgs m c).wPoke1 (ix2 k e)
        + ∑ k : Fin 128, (launchArgs m c).poke2 (ix3 b t k) * (launchArgs m c).wPoke2 (ix2 k e)
        + (∑ g : Fin 10, table m ρ c g.val ⟨(launchArgs m c).field b t (Fin.natAdd 2 (Fin.castLE (by decide) g : Fin 17)), h _ _ _⟩ e
          + (∑ r : Fin 7, (((launchArgs m c).field b t (Fin.natAdd 2 (Fin.natAdd 10 r : Fin 17)) : ℝ) : EReal)
              * table m ρ c 10 (Fin.castSucc r) e + table m ρ c 10 7 e)) := by
  rw [show W4 m ρ c (Proc.devRef .tc main_v17) = _ from (W4_arr m ρ c 8).trans (main_array (V3 m ρ) c)]
  show edgeOut (fun k => V3 m ρ c main_v16 (ix3 b t k)) (fun k => V3 m ρ c main_arg1 (ix3 b t k))
    (fun k => V3 m ρ c main_arg2 (ix3 b t k)) (fun k => V3 m ρ c main_arg3 (ix2 k e)) (fun k => V3 m ρ c main_arg5 (ix2 k e))
    (fun k => V3 m ρ c main_v14 (ix2 k e)) (V3 m ρ c main_cst_2) (V3 m ρ c main_cst_3) = _
  unfold edgeOut
  rw [at_cst_2, at_cst_3, show V3 m ρ c main_arg1 = _ from W3_args m ρ c main_arg1 (by decide),
    show V3 m ρ c main_arg2 = _ from W3_args m ρ c main_arg2 (by decide),
    show V3 m ρ c main_arg3 = _ from W3_args m ρ c main_arg3 (by decide),
    show V3 m ρ c main_arg5 = _ from W3_args m ρ c main_arg5 (by decide), at_v14]
  refine congrArg (fun z : EReal => _ + _ + z) ?_
  exact features_sum laneTables (n := fun k => (launchArgs m c).field b t (Fin.natAdd 2 k)) (fun k => h _ _ _)
    (fun k => by rw [at_v16]; exact narrow_value _ (h b t (Fin.natAdd 2 k))) (fun g r => table m ρ c g r e)

theorem sum_ten (F : Fin 10 → EReal) :
    ∑ g : Fin 10, F g = F 0 + F 1 + F 2 + F 3 + F 4 + F 5 + F 6 + F 7 + F 8 + F 9 := by
  rw [Fin.sum_univ_castSucc, Fin.sum_univ_castSucc, Fin.sum_univ_eight]
  rfl

/-- The side and the damage rows of the table, as sums. -/
theorem tableRow_sums {mv it ab st ma mi ed tu : Vec Ideal S8x128 .f32} {wb : Vec Ideal S7x128 .f32} {wd : Vec Ideal S20x128 .f32}
    {ws : Vec Ideal S2x128 .f32} {bias : Vec Ideal S1x128 .f32} {df : Vec Ideal S8x20 .f32} {sf : Vec Ideal S8x2 .f32}
    (r : Fin 8) (e : Fin 128) :
    tableRow mv it ab st ma mi ed tu wb wd ws bias df sf 8 r e = (∑ k : Fin 2, sf (ix2 r k) * ws (ix2 k e) : EReal)
    ∧ tableRow mv it ab st ma mi ed tu wb wd ws bias df sf 9 r e = (∑ k : Fin 20, df (ix2 r k) * wd (ix2 k e) : EReal) :=
  ⟨rfl, rfl⟩

/-! The rows of the table, block by block. -/

theorem table_0 (r : Fin 8) (e : Fin 128) : table m ρ c 0 r e = row (launchArgs m c).move r.val e := at_v5 m ρ c r e

theorem table_1 (r : Fin 8) (e : Fin 128) : table m ρ c 1 r e = row (launchArgs m c).item r.val e := at_v6 m ρ c r e

theorem table_2 (r : Fin 8) (e : Fin 128) : table m ρ c 2 r e = row (launchArgs m c).ability r.val e := at_v7 m ρ c r e

theorem table_4 (r : Fin 8) (e : Fin 128) : table m ρ c 4 r e = row (launchArgs m c).major r.val e := at_v8 m ρ c r e

theorem table_5 (r : Fin 8) (e : Fin 128) : table m ρ c 5 r e = row (launchArgs m c).minor r.val e := at_v9 m ρ c r e

theorem table_6 (r : Fin 8) (e : Fin 128) : table m ρ c 6 r e = row (launchArgs m c).edgeType r.val e := at_v10 m ρ c r e

theorem table_7 (r : Fin 8) (e : Fin 128) : table m ρ c 7 r e = row (launchArgs m c).turn r.val e := at_v11 m ρ c r e

theorem table_3 (r : Fin 8) (e : Fin 128) : table m ρ c 3 r e = row (launchArgs m c).status r.val e := by
  show V1 m ρ c main_arg10 (ix2 r e) = _
  rw [show V1 m ρ c main_arg10 = _ from W1_args m ρ c main_arg10 (by decide)]
  exact congrArg (fun q : Fin 8 => (launchArgs m c).status (ix2 q e)) (Fin.ext (Nat.mod_eq_of_lt r.isLt).symm)

theorem table_8 (r : Fin 8) (e : Fin 128) :
    table m ρ c 8 r e = ∑ k : Fin 2, side r.val k * (launchArgs m c).wSide (ix2 k e) := by
  have hw : V1 m ρ c main_arg19 = (launchArgs m c).wSide := W1_args m ρ c main_arg19 (by decide)
  exact tableRow_sums _ _ |>.1.trans <| Finset.sum_congr rfl fun k _ => congrArg₂ (fun x y : EReal => x * y) (at_side m ρ c r k) (congrFun hw _)

theorem table_9 (r : Fin 8) (e : Fin 128) :
    table m ρ c 9 r e = ∑ k : Fin 20, damage r.val k * (launchArgs m c).wDamage (ix2 k e) := by
  have hw : V1 m ρ c main_arg17 = (launchArgs m c).wDamage := W1_args m ρ c main_arg17 (by decide)
  exact tableRow_sums _ _ |>.2.trans <| Finset.sum_congr rfl fun k _ => congrArg₂ (fun x y : EReal => x * y) (at_v13 m ρ c r k) (congrFun hw _)

theorem table_10 (r : Fin 7) (e : Fin 128) :
    table m ρ c 10 (Fin.castSucc r) e = (launchArgs m c).wBoosts (ix2 r e) := by
  have hw : V1 m ρ c main_arg15 = (launchArgs m c).wBoosts := W1_args m ρ c main_arg15 (by decide)
  refine (dif_pos (show (Fin.castSucc r : Fin 8).val < 7 from r.isLt)).trans ?_
  exact congrFun hw _

theorem table_87 (e : Fin 128) : table m ρ c 10 7 e
    = ((launchArgs m c).bPoke1 (ix1 e) + (launchArgs m c).bPoke2 (ix1 e) + (launchArgs m c).bBoosts (ix1 e)
      + (launchArgs m c).bDamage (ix1 e) + (launchArgs m c).bSide (ix1 e) : EReal) :=
  at_v4 m ρ c e

theorem boosts_sum (b : Fin 1024) (t : Fin 200) (e : Fin 128) :
    ∑ r : Fin 7, (((launchArgs m c).field b t (Fin.natAdd 2 (Fin.natAdd 10 r : Fin 17)) : ℝ) : EReal)
        * table m ρ c 10 (Fin.castSucc r) e
      = ∑ k : Fin 7, (((launchArgs m c).field b t (Fin.natAdd 12 k) : ℝ) : EReal) * (launchArgs m c).wBoosts (ix2 k e) :=
  Finset.sum_congr rfl fun r _ => congrArg₂ (fun x y : EReal => x * y)
    (congrArg (fun q : Fin 19 => (((launchArgs m c).field b t q : ℝ) : EReal))
      (Fin.ext (by show 2 + (10 + r.val) = 12 + r.val; omega))) (table_10 m ρ c r e)

/-- The sum in the kernel's order is the sum in the program's order. -/
theorem reorder {p1 p2 s0 s1 s2 s3 s4 s5 s6 s7 s8 s9 t0 t1 t2 t3 t4 t5 t6 t7 t8 t9 bo bo' bias b1 b2 b3 b4 b5 : EReal}
    (h0 : s0 = t0) (h1 : s1 = t1) (h2 : s2 = t2) (h3 : s3 = t3) (h4 : s4 = t4) (h5 : s5 = t5) (h6 : s6 = t6) (h7 : s7 = t7)
    (h8 : s8 = t8) (h9 : s9 = t9) (hb : bo = bo') (hs : bias = b1 + b2 + b3 + b4 + b5) :
    p1 + p2 + (s0 + s1 + s2 + s3 + s4 + s5 + s6 + s7 + s8 + s9 + (bo + bias))
      = (p1 + b1) + (p2 + b2) + t0 + t1 + t2 + t3 + (bo' + b3) + (t9 + b4) + t7 + t6 + t4 + t5 + (t8 + b5) := by
  subst h0 h1 h2 h3 h4 h5 h6 h7 h8 h9 hb hs
  abel

/-- The kernel's result is the sum of the program, where every field is below eight. -/
theorem kernel_value (h : (launchArgs m c).InRange) (b : Fin 1024) (t : Fin 200) (e : Fin 128) :
    W4 m ρ c (Proc.devRef .tc main_v17) (ix3 b t e) = (launchArgs m c).value b t e := by
  rw [result_sums m ρ c h, sum_ten]
  exact reorder (table_0 m ρ c _ e) (table_1 m ρ c _ e) (table_2 m ρ c _ e) (table_3 m ρ c _ e) (table_4 m ρ c _ e)
    (table_5 m ρ c _ e) (table_6 m ρ c _ e) (table_7 m ρ c _ e) (table_8 m ρ c _ e) (table_9 m ρ c _ e)
    (boosts_sum m ρ c b t e) (table_87 m ρ c e)

end Cert.KernelIdeal.Values

end
-- ==== Proof.RefTake.lean ====
/- The reference's table lookups: a row of a table taken at an index word, with the wrap-around of negative indices and
   the fill of indices past the end that come with it.  At an index below 8, and so inside every table, the lookup is
   the plain row of the table. -/
module

public import proofs.«01_k».proof.Proof.Spec
public import proofs.«01_k».proof.Proof.Gen.ReferenceIdeal.Read
public import Idealize.ShloMosaic.Lib.ReduceAll
public import Idealize.ShloMosaic.Lib.StableHlo.Predicate

@[expose] public section

set_option maxRecDepth 16384

noncomputable section

namespace Cert.ReferenceIdeal.Values

open Idealize.ShloMosaic Idealize.ShloMosaic.TcCoe Idealize.SL.Sem Cert.ReferenceIdeal Cert.ReferenceIdeal.Gen Cert.Spec
open Idealize.ShloMosaic.StableHlo.Predicate

/-- The dimension numbers of a lookup of rows: a table of `N` rows of 128, one index word for each of the 1024 × 200
    positions, and a row of 128 at each. -/
abbrev rowDims (N : ℕ)
    (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- The table's second axis is not its first. -/
theorem one_ne : ¬ ((1 : Fin 2) = 0) := by decide

/-- A lookup of rows whose index word at `(b, t)` is a row number `n` of the table reads that row there. -/
theorem gather_rows {α : Type} {N : ℕ}
    (wf : GatherDims.WF ⟨2, ![N, 128]⟩ S1024x200x1 S1024x200x128 [2] [0] [] [0] [] 2 ![1, 128])
    (x : (⟨2, ![N, 128]⟩ : Shape).Idx → α) (idx : IVec S1024x200x1 32) (b : Fin 1024) (t : Fin 200) (e : Fin 128)
    (n : Fin N) (hn : (idx (ix3 b t 0)).toInt.toNat = n.val) :
    Host.gather (rowDims N wf) x idx (ix3 b t e) = x (ix2 n e) := by
  unfold Host.gather
  refine congrArg x (funext fun a => Fin.ext ?_)
  have hb : ∀ a, a ∉ (rowDims N wf).operandBatchingDims := fun a => List.not_mem_nil
  match a with
  | ⟨0, _⟩ =>
    show (rowDims N wf).start (ix3 b t e) idx 0 + (rowDims N wf).batchCoord (ix3 b t e) 0
      + (rowDims N wf).offCoord (ix3 b t e) 0 = n.val
    rw [GatherDims.batchCoord_eq_zero _ _ _ (hb 0),
      GatherDims.offCoord_eq_zero _ _ _ (fun h => ((GatherDims.mem_sKept _ _).mp h).1 (List.mem_singleton.mpr rfl))]
    unfold GatherDims.start
    rw [dif_pos (show (0 : Fin 2) ∈ (rowDims N wf).startIndexMap from List.mem_singleton.mpr rfl)]
    have hs : (rowDims N wf).siIdx (ix3 b t e) ⟨List.idxOf (0 : Fin 2) (rowDims N wf).startIndexMap,
        List.idxOf_lt_length_iff.2 (List.mem_singleton.mpr rfl)⟩ = ix3 b t 0 := by
      funext k
      refine Fin.ext ?_
      match k with
      | ⟨0, _⟩ => rfl
      | ⟨1, _⟩ => rfl
      | ⟨2, _⟩ => rfl
    rw [hs, hn]
    have := n.isLt
    show min n.val (N - 1) + 0 + 0 = n.val
    omega
  | ⟨1, _⟩ =>
    have hk : (1 : Fin 2) ∈ (rowDims N wf).sKept :=
      (GatherDims.mem_sKept _ _).2 ⟨fun h => absurd (List.mem_singleton.mp h) one_ne, hb 1⟩
    show (rowDims N wf).start (ix3 b t e) idx 1 + (rowDims N wf).batchCoord (ix3 b t e) 1
      + (rowDims N wf).offCoord (ix3 b t e) 1 = e.val
    rw [GatherDims.batchCoord_eq_zero _ _ _ (hb 1)]
    unfold GatherDims.start GatherDims.offCoord
    rw [dif_neg (show (1 : Fin 2) ∉ (rowDims N wf).startIndexMap from
      fun h => absurd (List.mem_singleton.mp h) one_ne), dif_pos hk]
    show 0 + 0 + e.val = e.val
    omega

/-- The index words of a lookup after a negative one has had the number of rows `len` added to it. -/
abbrev wrapped (len : BitVec 32) (idx : IVec S1024x200 32) : IVec S1024x200x1 32 :=
  broadcastInDim S1024x200x1 ![0, 1] bcast_S1024x200_S1024x200x1_0_1
    (select (cmpi .slt idx (broadcastInDim S1024x200 ![] bcast_S_S1024x200 (constantI S_ 32 0#32)))
      (addi idx (broadcastInDim S1024x200 ![] bcast_S_S1024x200 (constantI S_ 32 len))) idx)

/-- Whether the wrapped index word is a row number, at most `last`. -/
abbrev inside (len last : BitVec 32) (idx : IVec S1024x200 32) : IVec S1024x200x1 1 :=
  andi (cmpi .sge (wrapped len idx) (broadcastInDim S1024x200x1 ![] bcast_S_S1024x200x1 (constantI S_ 32 0#32)))
    (cmpi .sle (wrapped len idx) (broadcastInDim S1024x200x1 ![0, 1, 2] bcast_S1x1x1_S1024x200x1_0_1_2
      (broadcastInDim S1x1x1 ![2] bcast_S1_S1x1x1_2 (constantI S1 32 last))))

/-- A whole lookup: the row at the wrapped index word where that is a row number, and a fill elsewhere. -/
abbrev takeRows {N : ℕ} (d : GatherDims ⟨2, ![N, 128]⟩ S1024x200x1 S1024x200x128) (len last : BitVec 32)
    (x : Vec Ideal ⟨2, ![N, 128]⟩ .f32) (idx : IVec S1024x200 32) : Vec Ideal S1024x200x128 .f32 :=
  select (broadcastInDim S1024x200x128 ![0, 1] bcast_S1024x200_S1024x200x128_0_1
      (Host.reduce IntOp.andi (inside len last idx) (constantI S_ 1 1#1) reducesTo_S1024x200x1_S1024x200_d2 h_S_))
    (Host.gather d x (wrapped len idx))
    (broadcastInDim S1024x200x128 ![] bcast_S_S1024x200x128 (constant (F := Ideal) S_ .f32 0x7FC00000#32))

/-- An index word below 8 is not negative, so it is not wrapped. -/
theorem wrapped_apply (len : BitVec 32) (idx : IVec S1024x200 32) (b : Fin 1024) (t : Fin 200) (z : Fin 1)
    (h : (idx (ix2 b t)).toNat < 8) : wrapped len idx (ix3 b t z) = idx (ix2 b t) := by
  have e : wrapped len idx (ix3 b t z)
      = Scalar.select (IntOp.cmpi .slt (idx (ix2 b t)) 0#32) (IntOp.addi (idx (ix2 b t)) len) (idx (ix2 b t)) := by
    pointwise [wrapped]
  rw [e]
  have hn : ¬ IntOp.cmpi .slt (idx (ix2 b t)) 0#32 = 1#1 := by
    rw [slt_iff_toNat (by omega) (by decide)]
    exact Nat.not_lt_zero _
  exact if_neg hn

/-- Where every index word is below 8 and `last` is at least 7, every word is a row number. -/
theorem inside_apply (len last : BitVec 32) (hl : 7 ≤ last.toNat) (hl' : last.toNat < 2 ^ 31) (idx : IVec S1024x200 32)
    (h : ∀ b t, (idx (ix2 b t)).toNat < 8) (i : S1024x200x1.Idx) : inside len last idx i = 1#1 := by
  suffices hs : ∀ (b : Fin 1024) (t : Fin 200) (z : Fin 1), inside len last idx (ix3 b t z) = 1#1 by
    rw [eq_ix3 i]
    exact hs (i 0) (i 1) (i 2)
  intro b t z
  have hb := h b t
  have e : inside len last idx (ix3 b t z)
      = IntOp.andi (IntOp.cmpi .sge (wrapped len idx (ix3 b t z)) 0#32)
        (IntOp.cmpi .sle (wrapped len idx (ix3 b t z)) last) := by
    show IntOp.andi (IntOp.cmpi .sge (wrapped len idx (ix3 b t z)) _)
        (IntOp.cmpi .sle (wrapped len idx (ix3 b t z)) _) = _
    congr 2
  rw [e, wrapped_apply len idx b t z hb,
    (sge_iff_toNat (b := 0#32) (by omega) (by decide)).2 (Nat.zero_le _),
    (sle_iff_toNat (by omega) hl').2 (by omega)]
  rfl

/-- A choice between two arrays takes the first where its condition holds. -/
theorem select_one {s : Shape} {α : Type} (p : s.Idx → BitVec 1) (x y : s.Idx → α) (i : s.Idx) (h : p i = 1#1) :
    select p x y i = x i :=
  if_pos h

/-- THE LOOKUP: where every index word is below 8 and the table has at least 8 rows, the lookup at `(b, t)` is the row
    of the table that the word there names. -/
theorem takeRows_apply {N : ℕ} [NeZero N] (hN : 8 ≤ N)
    (wf : GatherDims.WF ⟨2, ![N, 128]⟩ S1024x200x1 S1024x200x128 [2] [0] [] [0] [] 2 ![1, 128])
    (len last : BitVec 32) (hl : 7 ≤ last.toNat) (hl' : last.toNat < 2 ^ 31) (x : Vec Ideal ⟨2, ![N, 128]⟩ .f32)
    (idx : IVec S1024x200 32) (h : ∀ b t, (idx (ix2 b t)).toNat < 8) (b : Fin 1024) (t : Fin 200) (e : Fin 128) :
    takeRows (rowDims N wf) len last x idx (ix3 b t e) = row x (idx (ix2 b t)).toNat e := by
  have hb := h b t
  have hm : broadcastInDim S1024x200x128 ![0, 1] bcast_S1024x200_S1024x200x128_0_1
      (Host.reduce IntOp.andi (inside len last idx) (constantI S_ 1 1#1) reducesTo_S1024x200x1_S1024x200_d2 h_S_)
      (ix3 b t e) = 1#1 :=
    Host.reduce_andi_one _ _ _ _ _ rfl (inside_apply len last hl hl' idx h)
  have hg : Host.gather (rowDims N wf) x (wrapped len idx) (ix3 b t e)
      = x (ix2 (Fin.ofNat N (idx (ix2 b t)).toNat) e) := by
    refine gather_rows wf x _ b t e _ ?_
    rw [wrapped_apply len idx b t 0 hb, toInt_eq_toNat_of_lt (by omega)]
    show (idx (ix2 b t)).toNat = (idx (ix2 b t)).toNat % N
    rw [Nat.mod_eq_of_lt (by omega)]
  exact (select_one _ _ _ _ hm).trans hg

end Cert.ReferenceIdeal.Values

end
-- ==== Proof.RefParts.lean ====
/- The parts of the reference's sum, each read at an index and brought to plain terms: the two encodings of a side of the
   edge, the nine table rows, the boosts, and the two low bits of the side field. -/
module

public import proofs.«01_k».proof.Proof.RefTake
public import proofs.«01_k».proof.Proof.Numbers

@[expose] public section

set_option maxRecDepth 16384

noncomputable section

namespace Cert.ReferenceIdeal.Values

open Idealize.ShloMosaic Idealize.ShloMosaic.TcCoe Idealize.SL.Sem Cert.ReferenceIdeal Cert.ReferenceIdeal.Gen Cert.Spec
open Cert.ReferenceIdeal.Read Idealize.ShloMosaic.StableHlo.Predicate

variable (A : Args) (h : A.InRange) (b : Fin 1024) (t : Fin 200) (e : Fin 128)

/-- A field below eight is not negative as a signed word. -/
theorem field_nonneg {w : BitVec 32} (hw : w.toNat < 8) : IntOp.cmpi .sge w 0#32 = 1#1 :=
  (sge_iff_toNat (by omega) (by decide)).2 (Nat.zero_le _)

/-- The first side's mask holds everywhere: its field is not negative. -/
theorem mask1 (h : A.InRange) : val_main_call0_v1 (F := Ideal) A.edges (ix3 b t e) = 1#1 := by
  have r : val_main_call0_v1 (F := Ideal) A.edges (ix3 b t e) = IntOp.cmpi .sge (A.edges (ix3 b t 0)) 0#32 := by
    pointwise [val_main_call0_v1, val_main_v4, val_main_v3, val_main_v1, val_main_v0, val_main_v2, val_main_c]
  exact r.trans (field_nonneg (h b t 0))

/-- The second side's mask holds everywhere. -/
theorem mask2 (h : A.InRange) : val_main_call1_v1 (F := Ideal) A.edges (ix3 b t e) = 1#1 := by
  have r : val_main_call1_v1 (F := Ideal) A.edges (ix3 b t e) = IntOp.cmpi .sge (A.edges (ix3 b t 1)) 0#32 := by
    pointwise [val_main_call1_v1, val_main_v9, val_main_v8, val_main_v6, val_main_v5, val_main_v7, val_main_c_0]
  exact r.trans (field_nonneg (h b t 1))

/-- The mask on the side features holds everywhere: it is the first side's. -/
theorem mask3 (h : A.InRange) : val_main_call12_v1 (F := Ideal) A.edges (ix3 b t e) = 1#1 := by
  have r : val_main_call12_v1 (F := Ideal) A.edges (ix3 b t e) = IntOp.cmpi .sge (A.edges (ix3 b t 0)) 0#32 := by
    pointwise [val_main_call12_v1, val_main_v4, val_main_v3, val_main_v1, val_main_v0, val_main_v2, val_main_c]
  exact r.trans (field_nonneg (h b t 0))

/-- The first side's encoding, times its weights, plus its bias. -/
theorem poke1_part (h : A.InRange) : val_main_v14 (F := Ideal) A.edges A.poke1 A.wPoke1 A.bPoke1 (ix3 b t e)
    = ∑ k : Fin 128, A.poke1 (ix3 b t k) * A.wPoke1 (ix2 k e) + A.bPoke1 (ix1 e) := by
  have r : val_main_v14 (F := Ideal) A.edges A.poke1 A.wPoke1 A.bPoke1 (ix3 b t e)
      = ∑ k : Fin 128, val_main_v10 (F := Ideal) A.edges A.poke1 (ix3 b t k) * A.wPoke1 (ix2 k e) + A.bPoke1 (ix1 e) := by
    pointwise [val_main_v14, val_main_v11, val_main_v12, val_main_v13]
  rw [r]
  refine congrArg₂ (fun x y : EReal => x + y) (Finset.sum_congr rfl fun k _ => ?_) rfl
  exact congrArg₂ (fun x y : EReal => x * y) (select_one _ _ _ _ (mask1 A b t k h)) rfl

/-- The second side's encoding, times its weights, plus its bias. -/
theorem poke2_part (h : A.InRange) : val_main_v19 (F := Ideal) A.edges A.poke2 A.wPoke2 A.bPoke2 (ix3 b t e)
    = ∑ k : Fin 128, A.poke2 (ix3 b t k) * A.wPoke2 (ix2 k e) + A.bPoke2 (ix1 e) := by
  have r : val_main_v19 (F := Ideal) A.edges A.poke2 A.wPoke2 A.bPoke2 (ix3 b t e)
      = ∑ k : Fin 128, val_main_v15 (F := Ideal) A.edges A.poke2 (ix3 b t k) * A.wPoke2 (ix2 k e) + A.bPoke2 (ix1 e) := by
    pointwise [val_main_v19, val_main_v16, val_main_v17, val_main_v18]
  rw [r]
  refine congrArg₂ (fun x y : EReal => x + y) (Finset.sum_congr rfl fun k _ => ?_) rfl
  exact congrArg₂ (fun x y : EReal => x * y) (select_one _ _ _ _ (mask2 A b t k h)) rfl

/-- The move's row. -/
theorem move_part (h : A.InRange) :
    val_main_v22 (F := Ideal) A.edges A.move (ix3 b t e) = row A.move (A.field b t 2) e := by
  have c : ∀ b t, val_main_v21 (F := Ideal) A.edges (ix2 b t) = A.edges (ix3 b t 2) := fun b t => by
    pointwise [val_main_v21, val_main_v20]
  refine (takeRows_apply (by decide) gather_S919x128_S1024x200x1_S1024x200x128_2_0_n_n_0_2_1128.wf 919#32 918#32
    (by decide) (by decide) A.move (val_main_v21 (F := Ideal) A.edges) (fun b t => ?_) b t e).trans ?_
  · rw [c]; exact h b t 2
  · rw [c]; rfl

/-- The item's row. -/
theorem item_part (h : A.InRange) :
    val_main_v25 (F := Ideal) A.edges A.item (ix3 b t e) = row A.item (A.field b t 3) e := by
  have c : ∀ b t, val_main_v24 (F := Ideal) A.edges (ix2 b t) = A.edges (ix3 b t 3) := fun b t => by
    pointwise [val_main_v24, val_main_v23]
  refine (takeRows_apply (by decide) gather_S576x128_S1024x200x1_S1024x200x128_2_0_n_n_0_2_1128.wf 576#32 575#32
    (by decide) (by decide) A.item (val_main_v24 (F := Ideal) A.edges) (fun b t => ?_) b t e).trans ?_
  · rw [c]; exact h b t 3
  · rw [c]; rfl

/-- The ability's row. -/
theorem ability_part (h : A.InRange) :
    val_main_v28 (F := Ideal) A.edges A.ability (ix3 b t e) = row A.ability (A.field b t 4) e := by
  have c : ∀ b t, val_main_v27 (F := Ideal) A.edges (ix2 b t) = A.edges (ix3 b t 4) := fun b t => by
    pointwise [val_main_v27, val_main_v26]
  refine (takeRows_apply (by decide) gather_S312x128_S1024x200x1_S1024x200x128_2_0_n_n_0_2_1128.wf 312#32 311#32
    (by decide) (by decide) A.ability (val_main_v27 (F := Ideal) A.edges) (fun b t => ?_) b t e).trans ?_
  · rw [c]; exact h b t 4
  · rw [c]; rfl

/-- The status's row. -/
theorem status_part (h : A.InRange) :
    val_main_v31 (F := Ideal) A.edges A.status (ix3 b t e) = row A.status (A.field b t 5) e := by
  have c : ∀ b t, val_main_v30 (F := Ideal) A.edges (ix2 b t) = A.edges (ix3 b t 5) := fun b t => by
    pointwise [val_main_v30, val_main_v29]
  refine (takeRows_apply (by decide) gather_S8x128_S1024x200x1_S1024x200x128_2_0_n_n_0_2_1128.wf 8#32 7#32
    (by decide) (by decide) A.status (val_main_v30 (F := Ideal) A.edges) (fun b t => ?_) b t e).trans ?_
  · rw [c]; exact h b t 5
  · rw [c]; rfl

/-- The major argument's row. -/
theorem major_part (h : A.InRange) :
    val_main_v34 (F := Ideal) A.edges A.major (ix3 b t e) = row A.major (A.field b t 6) e := by
  have c : ∀ b t, val_main_v33 (F := Ideal) A.edges (ix2 b t) = A.edges (ix3 b t 6) := fun b t => by
    pointwise [val_main_v33, val_main_v32]
  refine (takeRows_apply (by decide) gather_S32x128_S1024x200x1_S1024x200x128_2_0_n_n_0_2_1128.wf 32#32 31#32
    (by decide) (by decide) A.major (val_main_v33 (F := Ideal) A.edges) (fun b t => ?_) b t e).trans ?_
  · rw [c]; exact h b t 6
  · rw [c]; rfl

/-- The minor argument's row. -/
theorem minor_part (h : A.InRange) :
    val_main_v37 (F := Ideal) A.edges A.minor (ix3 b t e) = row A.minor (A.field b t 7) e := by
  have c : ∀ b t, val_main_v36 (F := Ideal) A.edges (ix2 b t) = A.edges (ix3 b t 7) := fun b t => by
    pointwise [val_main_v36, val_main_v35]
  refine (takeRows_apply (by decide) gather_S128x128_S1024x200x1_S1024x200x128_2_0_n_n_0_2_1128.wf 128#32 127#32
    (by decide) (by decide) A.minor (val_main_v36 (F := Ideal) A.edges) (fun b t => ?_) b t e).trans ?_
  · rw [c]; exact h b t 7
  · rw [c]; rfl

/-- The edge type's row. -/
theorem edgeType_part (h : A.InRange) :
    val_main_v40 (F := Ideal) A.edges A.edgeType (ix3 b t e) = row A.edgeType (A.field b t 8) e := by
  have c : ∀ b t, val_main_v39 (F := Ideal) A.edges (ix2 b t) = A.edges (ix3 b t 8) := fun b t => by
    pointwise [val_main_v39, val_main_v38]
  refine (takeRows_apply (by decide) gather_S16x128_S1024x200x1_S1024x200x128_2_0_n_n_0_2_1128.wf 16#32 15#32
    (by decide) (by decide) A.edgeType (val_main_v39 (F := Ideal) A.edges) (fun b t => ?_) b t e).trans ?_
  · rw [c]; exact h b t 8
  · rw [c]; rfl

/-- The turn's row. -/
theorem turn_part (h : A.InRange) :
    val_main_v75 (F := Ideal) A.edges A.turn (ix3 b t e) = row A.turn (A.field b t 9) e := by
  have c : ∀ b t, val_main_v74 (F := Ideal) A.edges (ix2 b t) = A.edges (ix3 b t 9) := fun b t => by
    pointwise [val_main_v74, val_main_v73]
  refine (takeRows_apply (by decide) gather_S20x128_S1024x200x1_S1024x200x128_2_0_n_n_0_2_1128.wf 20#32 19#32
    (by decide) (by decide) A.turn (val_main_v74 (F := Ideal) A.edges) (fun b t => ?_) b t e).trans ?_
  · rw [c]; exact h b t 9
  · rw [c]; rfl

/-- The seven boosts, times their weights, plus their bias. -/
theorem boosts_part (h : A.InRange) : val_main_v46 (F := Ideal) A.edges A.wBoosts A.bBoosts (ix3 b t e)
    = ∑ k : Fin 7, ((A.field b t (Fin.natAdd 12 k) : ℝ) : EReal) * A.wBoosts (ix2 k e) + A.bBoosts (ix1 e) := by
  have r : val_main_v46 (F := Ideal) A.edges A.wBoosts A.bBoosts (ix3 b t e)
      = ∑ k : Fin 7, val_main_v42 (F := Ideal) A.edges (ix3 b t k) * A.wBoosts (ix2 k e) + A.bBoosts (ix1 e) := by
    pointwise [val_main_v46, val_main_v43, val_main_v44, val_main_v45]
  have f : ∀ k : Fin 7, val_main_v42 (F := Ideal) A.edges (ix3 b t k)
      = (FloatOps.sitofp (F := Ideal) .f32 (A.edges (ix3 b t (Fin.natAdd 12 k)) : BitVec 32) : EReal) := fun k => by
    have : val_main_v41 (F := Ideal) A.edges (ix3 b t k) = A.edges (ix3 b t (Fin.natAdd 12 k)) := by
      pointwise [val_main_v41]
      rfl
    exact congrArg (fun w : BitVec 32 => (FloatOps.sitofp (F := Ideal) .f32 w : EReal)) this
  rw [r]
  refine congrArg₂ (fun x y : EReal => x + y) (Finset.sum_congr rfl fun k _ => ?_) rfl
  exact congrArg₂ (fun x y : EReal => x * y) ((f k).trans (sitofp_small _ (h b t (Fin.natAdd 12 k)))) rfl

/-- Bit `k` of a word below eight, as a feature. -/
theorem bit_value (n : Fin 8) (k : Fin 2) :
    (FloatOps.uitofp (F := Ideal) .f32 (IntOp.cmpi .ne (IntOp.andi (BitVec.ofNat 32 n.val)
      (IntOp.shli .host 1#32 (BitVec.ofNat 32 k.val))) 0#32) : EReal) = side n.val k := by
  have d : ∀ (n : Fin 8) (k : Fin 2), IntOp.cmpi .ne (IntOp.andi (BitVec.ofNat 32 n.val)
      (IntOp.shli .host 1#32 (BitVec.ofNat 32 k.val))) 0#32 = if n.val / 2 ^ k.val % 2 = 1 then 1#1 else 0#1 := by
    decide +kernel
  rw [d]
  unfold side
  show ((((if n.val / 2 ^ k.val % 2 = 1 then 1#1 else 0#1 : BitVec 1).toNat : ℝ)) : EReal) = _
  split <;> simp

/-- The two low bits of the side field, times their weights, plus their bias. -/
theorem side_part (h : A.InRange) : val_main_v104 (F := Ideal) A.edges A.wSide A.bSide (ix3 b t e)
    = ∑ k : Fin 2, side (A.field b t 10) k * A.wSide (ix2 k e) + A.bSide (ix1 e) := by
  have r : val_main_v92 (F := Ideal) A.edges A.wSide A.bSide (ix3 b t e)
      = ∑ k : Fin 2, val_main_v88 (F := Ideal) A.edges (ix3 b t k) * A.wSide (ix2 k e) + A.bSide (ix1 e) := by
    pointwise [val_main_v92, val_main_v89, val_main_v90, val_main_v91]
  have f : ∀ k : Fin 2, val_main_v88 (F := Ideal) A.edges (ix3 b t k) = side (A.field b t 10) k := fun k => by
    have e1 : val_main_v83 (F := Ideal) A.edges (ix3 b t k) = A.edges (ix3 b t 10) := by
      pointwise [val_main_v83, val_main_v81, val_main_v77, val_main_v76]
    have e2 : val_main_v84 (F := Ideal) (ix3 b t k) = IntOp.shli .host 1#32 (BitVec.ofNat 32 k.val) := by
      pointwise [val_main_v84, val_main_v82, val_main_v80, val_main_v79, val_main_c_7, val_main_v78]
    have e3 : val_main_v86 (F := Ideal) (ix3 b t k) = 0#32 := by
      pointwise [val_main_v86, val_main_c_8]
    have hw : A.edges (ix3 b t 10) = BitVec.ofNat 32 (⟨A.field b t 10, h b t 10⟩ : Fin 8).val :=
      word_small (A.edges (ix3 b t 10))
    rw [val_main_v88_apply, val_main_v87_apply, val_main_v85_apply, e1, e2, e3, hw]
    exact bit_value ⟨A.field b t 10, h b t 10⟩ k
  refine (select_one _ _ _ _ (mask3 A b t e h)).trans (r.trans ?_)
  refine congrArg₂ (fun x y : EReal => x + y) (Finset.sum_congr rfl fun k _ => ?_) rfl
  exact congrArg₂ (fun x y : EReal => x * y) (f k) rfl

end Cert.ReferenceIdeal.Values

end
-- ==== Proof.RefDamage.lean ====
/- The reference's damage features, and their part of its sum: the damage over 1023, its absolute value, its sign, and the
   one-hot of its bin, joined into twenty features. -/
module

public import proofs.«01_k».proof.Proof.RefParts

@[expose] public section

set_option maxRecDepth 16384

noncomputable section

namespace Cert.ReferenceIdeal.Values

open Idealize.ShloMosaic Idealize.ShloMosaic.TcCoe Idealize.SL.Sem Cert.ReferenceIdeal Cert.ReferenceIdeal.Gen Cert.Spec
open Cert.ReferenceIdeal.Read Idealize.ShloMosaic.StableHlo.Predicate

variable (A : Args) (b : Fin 1024) (t : Fin 200) (e : Fin 128)

/-- The damage field, as an array of its own. -/
theorem damage_field : val_main_v48 (F := Ideal) A.edges (ix2 b t) = A.edges (ix3 b t 11) := by
  pointwise [val_main_v48, val_main_v47]

/-- The damage field is the word of a number below eight. -/
theorem damage_word (h : A.InRange) :
    val_main_v48 (F := Ideal) A.edges (ix2 b t) = BitVec.ofNat 32 (⟨A.field b t 11, h b t 11⟩ : Fin 8).val :=
  (damage_field A b t).trans (word_small (A.edges (ix3 b t 11)))

/-- The damage over 1023. -/
theorem ratio (h : A.InRange) :
    val_main_v51 (F := Ideal) A.edges (ix2 b t) = (((A.field b t 11 : ℝ) / 1023 : ℝ) : EReal) := by
  have s : val_main_v49 (F := Ideal) A.edges (ix2 b t) = ((A.field b t 11 : ℝ) : EReal) := by
    rw [val_main_v49_apply, damage_field]
    exact sitofp_small _ (h b t 11)
  have d : val_main_v50 (F := Ideal) (ix2 b t) = ((1023 : ℝ) : EReal) := by
    have r : val_main_v50 (F := Ideal) (ix2 b t) = Ideal.ofBits .f32 0x447FC000#32 := by
      pointwise [val_main_v50, val_main_cst_2]
    exact r.trans ofBits_1023
  show Ideal.div (val_main_v49 (F := Ideal) A.edges (ix2 b t)) (val_main_v50 (F := Ideal) (ix2 b t)) = _
  rw [s, d]
  exact div_real _ _ (by norm_num)

/-- The damage over 1023 is its own absolute value. -/
theorem ratio_abs (h : A.InRange) :
    val_main_v53 (F := Ideal) A.edges (ix2 b t) = (((A.field b t 11 : ℝ) / 1023 : ℝ) : EReal) := by
  show max (val_main_v51 (F := Ideal) A.edges (ix2 b t) : EReal) (-(val_main_v51 (F := Ideal) A.edges (ix2 b t) : EReal)) = _
  rw [ratio A b t h]
  refine max_eq_left ?_
  have p : (0 : ℝ) ≤ (A.field b t 11 : ℝ) / 1023 := by positivity
  rw [← EReal.coe_neg]
  exact EReal.coe_le_coe_iff.2 (by linarith)

/-- The sign of the damage. -/
theorem sign_value (h : A.InRange) :
    val_main_v56 (F := Ideal) A.edges (ix2 b t) = if A.field b t 11 ≠ 0 then (1 : EReal) else 0 := by
  have r : val_main_v55 (F := Ideal) A.edges (ix2 b t) = signWord (val_main_v48 (F := Ideal) A.edges (ix2 b t)) := rfl
  rw [val_main_v56_apply, r, damage_word A b t h]
  exact sign_small ⟨A.field b t 11, h b t 11⟩

/-- The bin of the damage, as a float: eight, or seventeen (no bin) for no damage. -/
theorem bin_value (h : A.InRange) :
    val_main_v66 (F := Ideal) A.edges (ix2 b t) = if A.field b t 11 ≠ 0 then ((8 : ℝ) : EReal) else ((17 : ℝ) : EReal) := by
  have w := damage_word A b t h
  have d : ∀ n : Fin 8, IntOp.cmpi .eq (BitVec.ofNat 32 n.val) 0#32 = if n.val ≠ 0 then 0#1 else 1#1 := by decide +kernel
  have z : val_main_v64 (F := Ideal) (ix2 b t) = 0#32 := by pointwise [val_main_v64, val_main_c_5]
  have p : val_main_v65 (F := Ideal) A.edges (ix2 b t) = if A.field b t 11 ≠ 0 then 0#1 else 1#1 := by
    rw [val_main_v65_apply, w, z]
    exact d ⟨A.field b t 11, h b t 11⟩
  have s : val_main_call9_v1 (F := Ideal) (ix2 b t) = ((17 : ℝ) : EReal) := by
    have r : val_main_call9_v1 (F := Ideal) (ix2 b t) = (((17#32 : BitVec 32).toInt : ℝ) : EReal) := by
      pointwise [val_main_call9_v1, val_main_call9_v0, val_main_c_6]
      rfl
    have n : (17#32 : BitVec 32).toInt = 17 := by decide
    rw [r, n]
    rfl
  rw [val_main_v66_apply, p, s]
  by_cases hn : A.field b t 11 ≠ 0
  · rw [if_pos hn, if_pos hn]
    have k1 : val_main_v58 (F := Ideal) (ix2 b t) = 1023#32 := by pointwise [val_main_v58, val_main_c_3]
    have k2 : val_main_v61 (F := Ideal) (ix2 b t) = Ideal.ofBits .f32 0x43000000#32 := by
      pointwise [val_main_v61, val_main_cst_4]
    show val_main_v63 (F := Ideal) A.edges (ix2 b t) = _
    show Ideal.liftRound Int.floor (Ideal.div (FloatOps.sitofp (F := Ideal) .f32
      (IntOp.addi (val_main_v48 (F := Ideal) A.edges (ix2 b t)) (val_main_v58 (F := Ideal) (ix2 b t))) : EReal)
      (val_main_v61 (F := Ideal) (ix2 b t))) = _
    rw [k1, k2, w]
    exact bin_small ⟨A.field b t 11, h b t 11⟩ hn
  · rw [if_neg hn, if_neg hn]
    rfl

/-- The one-hot of the bin. -/
theorem hot_value (h : A.InRange) (j : Fin 17) :
    val_main_v67 (F := Ideal) A.edges (ix3 b t j) = if j.val = 8 ∧ A.field b t 11 ≠ 0 then (1 : EReal) else 0 := by
  have r1 : val_main_call10_v3 (F := Ideal) A.edges (ix3 b t j) = val_main_v66 (F := Ideal) A.edges (ix2 b t) := by
    pointwise [val_main_call10_v3, val_main_call10_v2, val_main_call10_v0, id]
  have r2 : val_main_call10_v4 (F := Ideal) (ix3 b t j) = ((j.val : ℝ) : EReal) := by
    have r : val_main_call10_v4 (F := Ideal) (ix3 b t j) = (FloatOps.sitofp (F := Ideal) .f32 (BitVec.ofNat 32 j.val) : EReal) := by
      pointwise [val_main_call10_v4, val_main_call10_v1]
    rw [r]
    show (((BitVec.ofNat 32 j.val).toInt : ℝ) : EReal) = _
    rw [toInt_ofNat_small _ (by omega)]
    simp
  have q : val_main_v67 (F := Ideal) A.edges (ix3 b t j)
      = (((BitVec.ofBool (decide (val_main_call10_v3 (F := Ideal) A.edges (ix3 b t j)
        = (val_main_call10_v4 (F := Ideal) (ix3 b t j) : EReal)))).toNat : ℝ) : EReal) := rfl
  rw [q, r1, r2, bin_value A b t h]
  by_cases hn : A.field b t 11 ≠ 0
  · rw [if_pos hn]
    by_cases hj : j.val = 8
    · rw [if_pos ⟨hj, hn⟩, hj]
      simp
    · rw [if_neg (fun c => hj c.1), decide_eq_false]
      · simp
      · intro c
        have c' : (8 : ℝ) = (j.val : ℝ) := EReal.coe_eq_coe_iff.1 c
        exact hj (by exact_mod_cast c'.symm)
  · rw [if_neg hn, if_neg (fun c => hn c.2), decide_eq_false]
    · simp
    · intro c
      have c' : (17 : ℝ) = (j.val : ℝ) := EReal.coe_eq_coe_iff.1 c
      have c'' : 17 = j.val := by exact_mod_cast c'
      omega

/-- The twenty features. -/
theorem features_value (h : A.InRange) (k : Fin 20) :
    val_main_v68 (F := Ideal) A.edges (ix3 b t k) = damage (A.field b t 11) k := by
  have c0 : val_main_v68 (F := Ideal) A.edges (ix3 b t 0) = val_main_v51 (F := Ideal) A.edges (ix2 b t) := by
    pointwise [val_main_v68, val_main_v52]
  have c1 : val_main_v68 (F := Ideal) A.edges (ix3 b t 1) = val_main_v53 (F := Ideal) A.edges (ix2 b t) := by
    pointwise [val_main_v68, val_main_v54]
  have c2 : val_main_v68 (F := Ideal) A.edges (ix3 b t 2) = val_main_v56 (F := Ideal) A.edges (ix2 b t) := by
    pointwise [val_main_v68, val_main_v57]
  have c3 : ∀ j : Fin 17, val_main_v68 (F := Ideal) A.edges (ix3 b t (Fin.natAdd 3 j))
      = val_main_v67 (F := Ideal) A.edges (ix3 b t j) := fun j => by
    have v : (Fin.natAdd 3 j).val = 3 + j.val := rfl
    pointwise [val_main_v68]
    rw [dif_neg (by omega), dif_neg (by omega), dif_neg (by omega)]
    exact congrArg (fun x => val_main_v67 (F := Ideal) A.edges (ix3 b t x)) (Fin.ext (by show 3 + j.val - 1 - 1 - 1 = _; omega))
  unfold damage
  by_cases h2 : k.val < 2
  · rw [if_pos h2]
    by_cases h0 : k.val = 0
    · obtain rfl : k = 0 := Fin.ext h0
      exact c0.trans (ratio A b t h)
    · obtain rfl : k = 1 := Fin.ext (by show k.val = 1; omega)
      exact c1.trans (ratio_abs A b t h)
  · rw [if_neg h2]
    by_cases h3 : k.val = 2
    · obtain rfl : k = 2 := Fin.ext h3
      refine (c2.trans (sign_value A b t h)).trans (if_congr ?_ rfl rfl)
      exact ⟨fun n => ⟨Or.inl rfl, n⟩, fun n => n.2⟩
    · obtain ⟨j, rfl⟩ : ∃ j : Fin 17, k = Fin.natAdd 3 j := ⟨⟨k.val - 3, by omega⟩, Fin.ext (by simp; omega)⟩
      refine ((c3 j).trans (hot_value A b t h j)).trans (if_congr ?_ rfl rfl)
      have v : (Fin.natAdd 3 j).val = 3 + j.val := rfl
      constructor
      · exact fun n => ⟨Or.inr (by omega), n.2⟩
      · exact fun n => ⟨by rcases n.1 with n | n <;> omega, n.2⟩

/-- The damage features, times their weights, plus their bias. -/
theorem damage_part (h : A.InRange) : val_main_v72 (F := Ideal) A.edges A.wDamage A.bDamage (ix3 b t e)
    = ∑ k : Fin 20, damage (A.field b t 11) k * A.wDamage (ix2 k e) + A.bDamage (ix1 e) := by
  have r : val_main_v72 (F := Ideal) A.edges A.wDamage A.bDamage (ix3 b t e)
      = ∑ k : Fin 20, val_main_v68 (F := Ideal) A.edges (ix3 b t k) * A.wDamage (ix2 k e) + A.bDamage (ix1 e) := by
    pointwise [val_main_v72, val_main_v69, val_main_v70, val_main_v71]
  rw [r]
  refine congrArg₂ (fun x y : EReal => x + y) (Finset.sum_congr rfl fun k _ => ?_) rfl
  exact congrArg₂ (fun x y : EReal => x * y) (features_value A b t h k) rfl

end Cert.ReferenceIdeal.Values

end
-- ==== Proof.RefValue.lean ====
/- What the reference leaves in its result array: the sum of its thirteen parts, which is the value of the program, and
   the run that leaves it there. -/
module

public import proofs.«01_k».proof.Proof.RefDamage

@[expose] public section

set_option maxRecDepth 16384

noncomputable section

namespace Cert.ReferenceIdeal.Values

open Idealize.ShloMosaic Idealize.ShloMosaic.TcCoe Idealize.SL.Sem Cert.ReferenceIdeal Cert.ReferenceIdeal.Gen Cert.Spec
open Cert.ReferenceIdeal.Read Idealize.ShloMosaic.StableHlo

/-- THE REFERENCE'S RESULT, over any arguments in range: the value of the program. -/
theorem reference_value (A : Args) (h : A.InRange) (b : Fin 1024) (t : Fin 200) (e : Fin 128) :
    val_main_v105 (F := Ideal) A.edges A.poke1 A.poke2 A.wPoke1 A.bPoke1 A.wPoke2 A.bPoke2 A.move A.item A.ability A.status A.edgeType A.major A.minor A.turn A.wBoosts A.bBoosts A.wDamage A.bDamage A.wSide A.bSide (ix3 b t e) = A.value b t e := by
  rw [val_main_v105_apply, val_main_v103_apply, val_main_v102_apply, val_main_v101_apply, val_main_v100_apply,
    val_main_v99_apply, val_main_v98_apply, val_main_v97_apply, val_main_v96_apply, val_main_v95_apply,
    val_main_v94_apply, val_main_v93_apply, poke1_part A b t e h, poke2_part A b t e h, move_part A b t e h,
    item_part A b t e h, ability_part A b t e h, status_part A b t e h, boosts_part A b t e h, damage_part A b t e h,
    turn_part A b t e h, edgeType_part A b t e h, major_part A b t e h, minor_part A b t e h, side_part A b t e h]
  rfl

/-- The reference's arguments on one device, at launch. -/
def launchArgs (m : (l : Loc nD τ sig) → Buf (Elt Ideal) l) (c : Dev nD) : Args where
  edges := m ((c : Thread nD τ).loc main_arg0)
  poke1 := m ((c : Thread nD τ).loc main_arg1)
  poke2 := m ((c : Thread nD τ).loc main_arg2)
  wPoke1 := m ((c : Thread nD τ).loc main_arg3)
  bPoke1 := m ((c : Thread nD τ).loc main_arg4)
  wPoke2 := m ((c : Thread nD τ).loc main_arg5)
  bPoke2 := m ((c : Thread nD τ).loc main_arg6)
  move := m ((c : Thread nD τ).loc main_arg7)
  item := m ((c : Thread nD τ).loc main_arg8)
  ability := m ((c : Thread nD τ).loc main_arg9)
  status := m ((c : Thread nD τ).loc main_arg10)
  edgeType := m ((c : Thread nD τ).loc main_arg11)
  major := m ((c : Thread nD τ).loc main_arg12)
  minor := m ((c : Thread nD τ).loc main_arg13)
  turn := m ((c : Thread nD τ).loc main_arg14)
  wBoosts := m ((c : Thread nD τ).loc main_arg15)
  bBoosts := m ((c : Thread nD τ).loc main_arg16)
  wDamage := m ((c : Thread nD τ).loc main_arg17)
  bDamage := m ((c : Thread nD τ).loc main_arg18)
  wSide := m ((c : Thread nD τ).loc main_arg19)
  bSide := m ((c : Thread nD τ).loc main_arg20)

/-- The reference's result array, from its arguments at launch. -/
theorem result_array (m : (l : Loc nD τ sig) → Buf (Elt Ideal) l) (c : Dev nD) (h : (launchArgs m c).InRange) :
    val_main_v105 (F := Ideal) (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20))
      = fun i => (launchArgs m c).value (i 0) (i 1) (i 2) := by
  funext i
  refine (congrArg _ (eq_ix3 i)).trans ?_
  exact reference_value (launchArgs m c) h (i 0) (i 1) (i 2)

end Cert.ReferenceIdeal.Values

end
-- ==== Proof.InRange.lean ====
/- The precondition, read: every field of the edges is a number below eight. -/
module

public import proofs.«01_k».proof.Proof.Spec
public import proofs.«01_k».proof.Proof.Gen.Pre_fields_below_eight
public import Idealize.ShloMosaic.Lib.ReduceAll
public import Idealize.ShloMosaic.Lib.StableHlo.Predicate

@[expose] public section

noncomputable section

namespace Cert.Pre_fields_below_eight.Values

open Idealize.ShloMosaic Cert.Pre_fields_below_eight Cert.Pre_fields_below_eight.Gen Cert.Spec
open Idealize.ShloMosaic.StableHlo.Predicate

/-- A word that is not negative and is below eight, both read signed, is a number below eight. -/
theorem small_of_signed (w : BitVec 32) (h : IntOp.andi (IntOp.cmpi .sge w 0#32) (IntOp.cmpi .slt w 8#32) = 1#1) :
    w.toNat < 8 := by
  obtain ⟨h1, h2⟩ := IntOp.andi_eq_one.1 h
  have g1 : (0#32).sle w = true := (ofBool_eq_one_iff _).1 h1
  have g2 : w.slt 8#32 = true := (ofBool_eq_one_iff _).1 h2
  rw [BitVec.sle_iff_toInt_le] at g1
  rw [BitVec.slt_iff_toInt_lt] at g2
  have e0 : (0#32 : BitVec 32).toInt = 0 := by decide
  have e8 : (8#32 : BitVec 32).toInt = 8 := by decide
  rw [e0, BitVec.toInt_eq_toNat_cond] at g1
  rw [e8, BitVec.toInt_eq_toNat_cond] at g2
  have := w.isLt
  split at g1 <;> omega

/-- THE PRECONDITION: where it holds, every field is in range. -/
theorem inRange (A : Args) (h : Cert.Pre_fields_below_eight.fn (F := Ideal) A.edges A.poke1 A.poke2 A.wPoke1 A.bPoke1 A.wPoke2 A.bPoke2 A.move A.item A.ability A.status A.edgeType A.major A.minor A.turn A.wBoosts A.bBoosts A.wDamage A.bDamage A.wSide A.bSide = fun _ => 1#1) : A.InRange := by
  intro b t k
  refine small_of_signed _ ?_
  exact Host.reduce_andi_all (t := S_) _ _ _ _ _ (congrFun h (Shape.Idx.first h_S_)) (ix3 b t k)

end Cert.Pre_fields_below_eight.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_fields_below_eight
public import proofs.«01_k».proof.Proof.Gen.ReferenceIdeal.Run
public import proofs.«01_k».proof.Proof.Gen.ReferenceIdeal.Read
public import proofs.«01_k».proof.Proof.KernelRun
public import proofs.«01_k».proof.Proof.KernelValue
public import proofs.«01_k».proof.Proof.RefValue
public import proofs.«01_k».proof.Proof.InRange
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem
open Cert.Spec

/-- The reference runs, its arguments end unchanged, and its counters end at zero: it declares no semaphore. -/
theorem reference_frame : Cert.quiescent_ReferenceIdeal := fun m g _ =>
  θ_run_mono (Cert.ReferenceIdeal.Value.run (F := Ideal) m g)
    (fun r h => ⟨fun c => (h c).2, sem_eq_zero_of_no_sems (by decide) r.2⟩)

/-- The same of the reference from the launches the precondition admits. -/
theorem reference_frame_pre : Cert.quiescent_ReferenceIdeal_pre_fields_below_eight := fun m g _ =>
  θ_run_mono (Cert.ReferenceIdeal.Value.run (F := Ideal) m g)
    (fun r h => ⟨fun c => (h c).2, sem_eq_zero_of_no_sems (by decide) r.2⟩)

section Kernel

open Cert.KernelIdeal Cert.KernelIdeal.Gen Cert.KernelIdeal.Values

/-- What the last boundary of the kernel's run holds in its result array: the program's value at every index. -/
theorem kernel_array (m : (l : Loc nD τ sig) → Buf (Elt Ideal) l) (g : Dev nD → PrngReg) (c : Dev nD)
    (hr : (launchArgs m c).InRange) :
    W4 m g c (Proc.devRef .tc main_v17) = fun i => (launchArgs m c).value (i 0) (i 1) (i 2) := by
  funext i
  exact (congrArg _ (eq_ix3 i)).trans (kernel_value m g c hr (i 0) (i 1) (i 2))

end Kernel

/-- Memories that agree on the argument arrays launch the two programs on the same arguments. -/
theorem args_agree (m : (l : Loc Cert.KernelIdeal.nD Cert.KernelIdeal.τ Cert.KernelIdeal.sig) → Buf (Elt Ideal) l)
    (m' : (l : Loc Cert.ReferenceIdeal.nD Cert.ReferenceIdeal.τ Cert.ReferenceIdeal.sig) → Buf (Elt Ideal) l)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
      m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧
      m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧
      m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧
      m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧
      m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16) ∧
      m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17) ∧
      m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18) ∧
      m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19) ∧
      m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Values.launchArgs m' c = Cert.KernelIdeal.Values.launchArgs m c := by
  obtain ⟨h0, h1, h2, h3, h4, h5, h6, h7, h8, h9, h10, h11, h12, h13, h14, h15, h16, h17, h18, h19, h20⟩ := h
  unfold Cert.ReferenceIdeal.Values.launchArgs Cert.KernelIdeal.Values.launchArgs
  rw [h0, h1, h2, h3, h4, h5, h6, h7, h8, h9, h10, h11, h12, h13, h14, h15, h16, h17, h18, h19, h20]

/-- THE VALUE: from arguments in range, the ideal kernel and the reference leave the same result array. -/
theorem same_value : Cert.algebraic_KernelIdeal_ReferenceIdeal_pre_fields_below_eight := by
  intro m g m' g' hpre hargs
  have hr : ∀ c, (Cert.KernelIdeal.Values.launchArgs m c).InRange := fun c =>
    Cert.Pre_fields_below_eight.Values.inRange _ (hpre c)
  refine ⟨fun c => fun i => (Cert.KernelIdeal.Values.launchArgs m c).value (i 0) (i 1) (i 2), ?_, ?_⟩
  · open Cert.KernelIdeal Cert.KernelIdeal.Gen Cert.KernelIdeal.Values in
    exact θ_run_mono (run_boundary m g) (fun r h c =>
      ⟨(h c _ (mem_uc main_v17 (by decide))).trans (kernel_array m g c (hr c)),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c),
       (h c _ (mem_uc main_arg4 (by decide))).trans (W4_main_arg4 m g c),
       (h c _ (mem_uc main_arg5 (by decide))).trans (W4_main_arg5 m g c),
       (h c _ (mem_uc main_arg6 (by decide))).trans (W4_main_arg6 m g c),
       (h c _ (mem_uc main_arg7 (by decide))).trans (W4_main_arg7 m g c),
       (h c _ (mem_uc main_arg8 (by decide))).trans (W4_main_arg8 m g c),
       (h c _ (mem_uc main_arg9 (by decide))).trans (W4_main_arg9 m g c),
       (h c _ (mem_uc main_arg10 (by decide))).trans (W4_main_arg10 m g c),
       (h c _ (mem_uc main_arg11 (by decide))).trans (W4_main_arg11 m g c),
       (h c _ (mem_uc main_arg12 (by decide))).trans (W4_main_arg12 m g c),
       (h c _ (mem_uc main_arg13 (by decide))).trans (W4_main_arg13 m g c),
       (h c _ (mem_uc main_arg14 (by decide))).trans (W4_main_arg14 m g c),
       (h c _ (mem_uc main_arg15 (by decide))).trans (W4_main_arg15 m g c),
       (h c _ (mem_uc main_arg16 (by decide))).trans (W4_main_arg16 m g c),
       (h c _ (mem_uc main_arg17 (by decide))).trans (W4_main_arg17 m g c),
       (h c _ (mem_uc main_arg18 (by decide))).trans (W4_main_arg18 m g c),
       (h c _ (mem_uc main_arg19 (by decide))).trans (W4_main_arg19 m g c),
       (h c _ (mem_uc main_arg20 (by decide))).trans (W4_main_arg20 m g c)⟩)
  · refine θ_run_mono (Cert.ReferenceIdeal.Value.run (F := Ideal) m' g') (fun r h c => ⟨?_, (h c).2⟩)
    have e := args_agree m m' c (hargs c)
    have hr' : (Cert.ReferenceIdeal.Values.launchArgs m' c).InRange := e ▸ hr c
    refine (h c).1.trans ((Cert.ReferenceIdeal.Read.val_main_v105_eq (launchContents m' c)).trans ?_)
    refine (Cert.ReferenceIdeal.Values.result_array m' c hr').trans ?_
    rw [e]
    rfl

/-- The claim: each program has the structure its frame needs, and every claim about them holds. -/
theorem claim : Cert.Claim :=
  ⟨Cert.Kernel.Gen.facts, Cert.KernelIdeal.Gen.facts, Cert.ReferenceIdeal.Gen.facts, Cert.Pre_fields_below_eight.Gen.facts,
   fun m g _ => Cert.Kernel.Gen.frame m g, fun m g _ => Cert.KernelIdeal.Gen.frame m g,
   fun m g _ => Cert.KernelIdeal.Gen.frame m g, reference_frame, reference_frame_pre, trivial, same_value⟩

end Cert.Proof

end
